-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512x5 : Shape := ⟨3, ![4096, 512, 5]⟩
abbrev S128x5 : Shape := ⟨2, ![128, 5]⟩
abbrev S128x32 : Shape := ⟨2, ![128, 32]⟩
abbrev S128 : Shape := ⟨1, ![128]⟩
abbrev S3x32 : Shape := ⟨2, ![3, 32]⟩
abbrev S3 : Shape := ⟨1, ![3]⟩
abbrev S512x5x4096 : Shape := ⟨3, ![512, 5, 4096]⟩
abbrev S_ : Shape := ⟨0, ![]⟩
abbrev S128x40 : Shape := ⟨2, ![128, 40]⟩
abbrev S1 : Shape := ⟨1, ![1]⟩
abbrev S64x1 : Shape := ⟨2, ![64, 1]⟩
abbrev S32x1 : Shape := ⟨2, ![32, 1]⟩
abbrev S128x1 : Shape := ⟨2, ![128, 1]⟩
abbrev S8x40 : Shape := ⟨2, ![8, 40]⟩
abbrev S2 : Shape := ⟨1, ![2]⟩
abbrev S8x4096 : Shape := ⟨2, ![8, 4096]⟩
abbrev S64x5x2048 : Shape := ⟨3, ![64, 5, 2048]⟩
abbrev S8x2048 : Shape := ⟨2, ![8, 2048]⟩
abbrev S40x256 : Shape := ⟨2, ![40, 256]⟩
abbrev S32x256 : Shape := ⟨2, ![32, 256]⟩
abbrev S3x256 : Shape := ⟨2, ![3, 256]⟩
abbrev S1x5x256 : Shape := ⟨3, ![1, 5, 256]⟩
abbrev S5x256 : Shape := ⟨2, ![5, 256]⟩
abbrev S128x256 : Shape := ⟨2, ![128, 256]⟩
abbrev S8x256 : Shape := ⟨2, ![8, 256]⟩
abbrev S3x4096 : Shape := ⟨2, ![3, 4096]⟩
abbrev S4096x3 : Shape := ⟨2, ![4096, 3]⟩

abbrev nBuf : Space → Nat
  | .hbm => 46
  | .vmem => 22
  | .smem => 0
  | _ => 0

abbrev bufTy : (tb : Table) → Fin (tcTables nBuf tb) → BufTy
  | .hbm, ⟨0, _⟩ => ⟨S4096x512x5, .f32⟩
  | .hbm, ⟨1, _⟩ => ⟨S128x5, .f32⟩
  | .hbm, ⟨2, _⟩ => ⟨S128x32, .f32⟩
  | .hbm, ⟨3, _⟩ => ⟨S128, .f32⟩
  | .hbm, ⟨4, _⟩ => ⟨S128, .f32⟩
  | .hbm, ⟨5, _⟩ => ⟨S3x32, .f32⟩
  | .hbm, ⟨6, _⟩ => ⟨S3, .f32⟩
  | .hbm, ⟨7, _⟩ => ⟨S512x5x4096, .f32⟩
  | .hbm, ⟨8, _⟩ => ⟨S_, .f32⟩
  | .hbm, ⟨9, _⟩ => ⟨S128x40, .f32⟩
  | .hbm, ⟨10, _⟩ => ⟨S_, .i32⟩
  | .hbm, ⟨11, _⟩ => ⟨S1, .i32⟩
  | .hbm, ⟨12, _⟩ => ⟨S128x40, .f32⟩
  | .hbm, ⟨13, _⟩ => ⟨S128, .f32⟩
  | .hbm, ⟨14, _⟩ => ⟨S_, .i32⟩
  | .hbm, ⟨15, _⟩ => ⟨S1, .i32⟩
  | .hbm, ⟨16, _⟩ => ⟨S128x40, .f32⟩
  | .hbm, ⟨17, _⟩ => ⟨S_, .i32⟩
  | .hbm, ⟨18, _⟩ => ⟨S1, .i32⟩
  | .hbm, ⟨19, _⟩ => ⟨S128x40, .f32⟩
  | .hbm, ⟨20, _⟩ => ⟨S_, .f32⟩
  | .hbm, ⟨21, _⟩ => ⟨S64x1, .f32⟩
  | .hbm, ⟨22, _⟩ => ⟨S_, .f32⟩
  | .hbm, ⟨23, _⟩ => ⟨S32x1, .f32⟩
  | .hbm, ⟨24, _⟩ => ⟨S_, .f32⟩
  | .hbm, ⟨25, _⟩ => ⟨S32x1, .f32⟩
  | .hbm, ⟨26, _⟩ => ⟨S128x1, .f32⟩
  | .hbm, ⟨27, _⟩ => ⟨S128x40, .f32⟩
  | .hbm, ⟨28, _⟩ => ⟨S128x40, .f32⟩
  | .hbm, ⟨29, _⟩ => ⟨S_, .f32⟩
  | .hbm, ⟨30, _⟩ => ⟨S8x40, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S8x40, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S8x40, .f32⟩
  | .hbm, ⟨43, _⟩ => ⟨S8x4096, .f32⟩
  | .hbm, ⟨44, _⟩ => ⟨S3x4096, .f32⟩
  | .hbm, ⟨45, _⟩ => ⟨S4096x3, .f32⟩
  | .local _ .vmem, ⟨0, _⟩ => ⟨S64x5x2048, .f32⟩
  | .local _ .vmem, ⟨1, _⟩ => ⟨S64x5x2048, .f32⟩
  | .local _ .vmem, ⟨2, _⟩ => ⟨S128x40, .f32⟩
  | .local _ .vmem, ⟨3, _⟩ => ⟨S8x40, .f32⟩
  | .local _ .vmem, ⟨4, _⟩ => ⟨S8x2048, .f32⟩
  | .local _ .vmem, ⟨5, _⟩ => ⟨S8x2048, .f32⟩
  | .local _ .vmem, ⟨6, _⟩ => ⟨S40x256, .f32⟩
  | .local _ .vmem, ⟨7, _⟩ => ⟨S40x256, .f32⟩
  | .local _ .vmem, ⟨8, _⟩ => ⟨S40x256, .f32⟩
  | .local _ .vmem, ⟨9, _⟩ => ⟨S40x256, .f32⟩
  | .local _ .vmem, ⟨10, _⟩ => ⟨S40x256, .f32⟩
  | .local _ .vmem, ⟨11, _⟩ => ⟨S40x256, .f32⟩
  | .local _ .vmem, ⟨12, _⟩ => ⟨S40x256, .f32⟩
  | .local _ .vmem, ⟨13, _⟩ => ⟨S40x256, .f32⟩
  | .local _ .vmem, ⟨14, _⟩ => ⟨S32x256, .f32⟩
  | .local _ .vmem, ⟨15, _⟩ => ⟨S32x256, .f32⟩
  | .local _ .vmem, ⟨16, _⟩ => ⟨S32x256, .f32⟩
  | .local _ .vmem, ⟨17, _⟩ => ⟨S32x256, .f32⟩
  | .local _ .vmem, ⟨18, _⟩ => ⟨S32x256, .f32⟩
  | .local _ .vmem, ⟨19, _⟩ => ⟨S32x256, .f32⟩
  | .local _ .vmem, ⟨20, _⟩ => ⟨S32x256, .f32⟩
  | .local _ .vmem, ⟨21, _⟩ => ⟨S32x256, .f32⟩
  | _, _ => ⟨S4096x512x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_c_6 : Ref sig .tc := ⟨.hbm, 31, rfl⟩
abbrev main_v16 : Ref sig .tc := ⟨.hbm, 32, rfl⟩
abbrev main_c_7 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_8 : Ref sig .tc := ⟨.hbm, 37, rfl⟩
abbrev main_v20 : Ref sig .tc := ⟨.hbm, 38, rfl⟩
abbrev main_c_9 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_3 : BitVec 32 := 0#32
  let c64_i32 : BitVec 32 := 64#32
  let v9 : BitVec 32 := Scalar.addi c0_i32_3 c64_i32
  let c1_i32 : BitVec 32 := 1#32
  ⟨c0_i32_3, v9, c1_i32⟩
def k0_off1 (k0_t1 : Fin k0_t1_loop.trips) : Fin 3 → Nat :=
  let c0_i32_3 : BitVec 32 := 0#32
  let c1_i32 : BitVec 32 := 1#32
  let arg22 : BitVec 32 := Scf.iv c0_i32_3 c1_i32 k0_t1
  let v13 : Index := Scalar.indexCast arg22
  let c0 : Index := 0#32
  let c0_6 : Index := 0#32
  ![v13.toNat, 0, 0]
def k0_off2 (k0_t1 : Fin k0_t1_loop.trips) : Fin 3 → Nat :=
  let c0_i32_3 : BitVec 32 := 0#32
  let c1_i32 : BitVec 32 := 1#32
  let arg22 : BitVec 32 := Scf.iv c0_i32_3 c1_i32 k0_t1
  let v50 : Index := Scalar.indexCast arg22
  let c0_21 : Index := 0#32
  let c256 : Index := 256#32
  ![v50.toNat, 0, 256]
def k0_off3 (k0_t1 : Fin k0_t1_loop.trips) : Fin 3 → Nat :=
  let c0_i32_3 : BitVec 32 := 0#32
  let c1_i32 : BitVec 32 := 1#32
  let arg22 : BitVec 32 := Scf.iv c0_i32_3 c1_i32 k0_t1
  let v87 : Index := Scalar.indexCast arg22
  let c0_37 : Index := 0#32
  let c512 : Index := 512#32
  ![v87.toNat, 0, 512]
def k0_off4 (k0_t1 : Fin k0_t1_loop.trips) : Fin 3 → Nat :=
  let c0_i32_3 : BitVec 32 := 0#32
  let c1_i32 : BitVec 32 := 1#32
  let arg22 : BitVec 32 := Scf.iv c0_i32_3 c1_i32 k0_t1
  let v124 : Index := Scalar.indexCast arg22
  let c0_53 : Index := 0#32
  let c768 : Index := 768#32
  ![v124.toNat, 0, 768]
def k0_off5 (k0_t1 : Fin k0_t1_loop.trips) : Fin 3 → Nat :=
  let c0_i32_3 : BitVec 32 := 0#32
  let c1_i32 : BitVec 32 := 1#32
  let arg22 : BitVec 32 := Scf.iv c0_i32_3 c1_i32 k0_t1
  let v161 : Index := Scalar.indexCast arg22
  let c0_69 : Index := 0#32
  let c1024 : Index := 1024#32
  ![v161.toNat, 0, 1024]
def k0_off6 (k0_t1 : Fin k0_t1_loop.trips) : Fin 3 → Nat :=
  let c0_i32_3 : BitVec 32 := 0#32
  let c1_i32 : BitVec 32 := 1#32
  let arg22 : BitVec 32 := Scf.iv c0_i32_3 c1_i32 k0_t1
  let v198 : Index := Scalar.indexCast arg22
  let c0_85 : Index := 0#32
  let c1280 : Index := 1280#32
  ![v198.toNat, 0, 1280]
def k0_off7 (k0_t1 : Fin k0_t1_loop.trips) : Fin 3 → Nat :=
  let c0_i32_3 : BitVec 32 := 0#32
  let c1_i32 : BitVec 32 := 1#32
  let arg22 : BitVec 32 := Scf.iv c0_i32_3 c1_i32 k0_t1
  let v235 : Index := Scalar.indexCast arg22
  let c0_101 : Index := 0#32
  let c1536 : Index := 1536#32
  ![v235.toNat, 0, 1536]
def k0_off8 (k0_t1 : Fin k0_t1_loop.trips) : Fin 3 → Nat :=
  let c0_i32_3 : BitVec 32 := 0#32
  let c1_i32 : BitVec 32 := 1#32
  let arg22 : BitVec 32 := Scf.iv c0_i32_3 c1_i32 k0_t1
  let v272 : Index := Scalar.indexCast arg22
  let c0_117 : Index := 0#32
  let c1792 : Index := 1792#32
  ![v272.toNat, 0, 1792]
def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_5 : BitVec 32 := 0#32
  let v12 : BitVec 1 := Scalar.cmpi .ne v11 c0_i32_5
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x5x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S4096x512x5 : Shape := ⟨3, ![4096, 512, 5]⟩
abbrev S128x5 : Shape := ⟨2, ![128, 5]⟩
abbrev S128x32 : Shape := ⟨2, ![128, 32]⟩
abbrev S128 : Shape := ⟨1, ![128]⟩
abbrev S3x32 : Shape := ⟨2, ![3, 32]⟩
abbrev S3 : Shape := ⟨1, ![3]⟩
abbrev S4096x512x128 : Shape := ⟨3, ![4096, 512, 128]⟩
abbrev S1x1x128 : Shape := ⟨3, ![1, 1, 128]⟩
abbrev S512x4096x128 : Shape := ⟨3, ![512, 4096, 128]⟩
abbrev S_ : Shape := ⟨0, ![]⟩
abbrev S4096x32 : Shape := ⟨2, ![4096, 32]⟩
abbrev S1x4096x128 : Shape := ⟨3, ![1, 4096, 128]⟩
abbrev S4096x128 : Shape := ⟨2, ![4096, 128]⟩
abbrev S32x128 : Shape := ⟨2, ![32, 128]⟩
abbrev S1x128 : Shape := ⟨2, ![1, 128]⟩
abbrev S32x3 : Shape := ⟨2, ![32, 3]⟩
abbrev S4096x3 : Shape := ⟨2, ![4096, 3]⟩
abbrev S1x3 : Shape := ⟨2, ![1, 3]⟩

abbrev nBuf : Space → Nat
  | .hbm => 76
  | .vmem => 0
  | .smem => 0
  | _ => 0

abbrev bufTy : (tb : Table) → Fin (tcTables nBuf tb) → BufTy
  | .hbm, ⟨0, _⟩ => ⟨S4096x512x5, .f32⟩
  | .hbm, ⟨1, _⟩ => ⟨S128x5, .f32⟩
  | .hbm, ⟨2, _⟩ => ⟨S128x32, .f32⟩
  | .hbm, ⟨3, _⟩ => ⟨S128, .f32⟩
  | .hbm, ⟨4, _⟩ => ⟨S128, .f32⟩
  | .hbm, ⟨5, _⟩ => ⟨S3x32, .f32⟩
  | .hbm, ⟨6, _⟩ => ⟨S3, .f32⟩
  | .hbm, ⟨7, _⟩ => ⟨S4096x512x128, .f32⟩
  | .hbm, ⟨8, _⟩ => ⟨S1x1x128, .f32⟩
  | .hbm, ⟨9, _⟩ => ⟨S4096x512x128, .f32⟩
  | .hbm, ⟨10, _⟩ => ⟨S4096x512x128, .f32⟩
  | .hbm, ⟨11, _⟩ => ⟨S512x4096x128, .f32⟩
  | .hbm, ⟨12, _⟩ => ⟨S_, .f32⟩
  | .hbm, ⟨13, _⟩ => ⟨S4096x32, .f32⟩
  | .hbm, ⟨14, _⟩ => ⟨S_, .f32⟩
  | .hbm, ⟨15, _⟩ => ⟨S4096x32, .f32⟩
  | .hbm, ⟨16, _⟩ => ⟨S_, .i32⟩
  | .hbm, ⟨17, _⟩ => ⟨S512x4096x128, .f32⟩
  | .hbm, ⟨18, _⟩ => ⟨S128x32, .f32⟩
  | .hbm, ⟨19, _⟩ => ⟨S128, .f32⟩
  | .hbm, ⟨20, _⟩ => ⟨S_, .i32⟩
  | .hbm, ⟨21, _⟩ => ⟨S4096x32, .f32⟩
  | .hbm, ⟨22, _⟩ => ⟨S4096x32, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S1x4096x128, .f32⟩
  | .hbm, ⟨28, _⟩ => ⟨S4096x128, .f32⟩
  | .hbm, ⟨29, _⟩ => ⟨S32x128, .f32⟩
  | .hbm, ⟨30, _⟩ => ⟨S4096x128, .f32⟩
  | .hbm, ⟨31, _⟩ => ⟨S4096x128, .f32⟩
  | .hbm, ⟨32, _⟩ => ⟨S1x128, .f32⟩
  | .hbm, ⟨33, _⟩ => ⟨S4096x128, .f32⟩
  | .hbm, ⟨34, _⟩ => ⟨S4096x128, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S_, .f32⟩
  | .hbm, ⟨42, _⟩ => ⟨S4096x32, .f32⟩
  | .hbm, ⟨43, _⟩ => ⟨S4096x32, .f32⟩
  | .hbm, ⟨44, _⟩ => ⟨S_, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S_, .f32⟩
  | .hbm, ⟨50, _⟩ => ⟨S4096x32, .f32⟩
  | .hbm, ⟨51, _⟩ => ⟨S4096x32, .f32⟩
  | .hbm, ⟨52, _⟩ => ⟨S_, .f32⟩
  | .hbm, ⟨53, _⟩ => ⟨S4096x32, .f32⟩
  | .hbm, ⟨54, _⟩ => ⟨S4096x32, .f32⟩
  | .hbm, ⟨55, _⟩ => ⟨S4096x32, .f32⟩
  | .hbm, ⟨56, _⟩ => ⟨S4096x32, .f32⟩
  | .hbm, ⟨57, _⟩ => ⟨S4096x32, .f32⟩
  | .hbm, ⟨58, _⟩ => ⟨S_, .f32⟩
  | .hbm, ⟨59, _⟩ => ⟨S4096x32, .f32⟩
  | .hbm, ⟨60, _⟩ => ⟨S4096x32, .f32⟩
  | .hbm, ⟨61, _⟩ => ⟨S_, .f32⟩
  | .hbm, ⟨62, _⟩ => ⟨S4096x32, .f32⟩
  | .hbm, ⟨63, _⟩ => ⟨S4096x32, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S_, .i32⟩
  | .hbm, ⟨70, _⟩ => ⟨S_, .i32⟩
  | .hbm, ⟨71, _⟩ => ⟨S32x3, .f32⟩
  | .hbm, ⟨72, _⟩ => ⟨S4096x3, .f32⟩
  | .hbm, ⟨73, _⟩ => ⟨S1x3, .f32⟩
  | .hbm, ⟨74, _⟩ => ⟨S4096x3, .f32⟩
  | .hbm, ⟨75, _⟩ => ⟨S4096x3, .f32⟩
  | _, _ => ⟨S4096x512x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_c : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev main_while0c_c_6 : Ref sig .tc := ⟨.hbm, 23, rfl⟩
abbrev main_while0c_v13 : Ref sig .tc := ⟨.hbm, 24, rfl⟩
abbrev main_while0b_call0_c : Ref sig .tc := ⟨.hbm, 25, rfl⟩
abbrev main_while0b_call0_c_0 : Ref sig .tc := ⟨.hbm, 26, rfl⟩
abbrev main_while0b_call0_v0 : Ref sig .tc := ⟨.hbm, 27, rfl⟩
abbrev main_while0b_v13 : Ref sig .tc := ⟨.hbm, 28, rfl⟩
abbrev main_while0b_v14 : Ref sig .tc := ⟨.hbm, 29, rfl⟩
abbrev main_while0b_v15 : Ref sig .tc := ⟨.hbm, 30, rfl⟩
abbrev main_while0b_v16 : Ref sig .tc := ⟨.hbm, 31, rfl⟩
abbrev main_while0b_v17 : Ref sig .tc := ⟨.hbm, 32, rfl⟩
abbrev main_while0b_v18 : Ref sig .tc := ⟨.hbm, 33, rfl⟩
abbrev main_while0b_v19 : Ref sig .tc := ⟨.hbm, 34, rfl⟩
abbrev main_while0b_v20 : Ref sig .tc := ⟨.hbm, 35, rfl⟩
abbrev main_while0b_v21 : Ref sig .tc := ⟨.hbm, 36, rfl⟩
abbrev main_while0b_v22 : Ref sig .tc := ⟨.hbm, 37, rfl⟩
abbrev main_while0b_v23 : Ref sig .tc := ⟨.hbm, 38, rfl⟩
abbrev main_while0b_v24 : Ref sig .tc := ⟨.hbm, 39, rfl⟩
abbrev main_while0b_v25 : Ref sig .tc := ⟨.hbm, 40, rfl⟩
abbrev main_while0b_cst_6 : Ref sig .tc := ⟨.hbm, 41, rfl⟩
abbrev main_while0b_v26 : Ref sig .tc := ⟨.hbm, 42, rfl⟩
abbrev main_while0b_v27 : Ref sig .tc := ⟨.hbm, 43, rfl⟩
abbrev main_while0b_cst_7 : Ref sig .tc := ⟨.hbm, 44, rfl⟩
abbrev main_while0b_v28 : Ref sig .tc := ⟨.hbm, 45, rfl⟩
abbrev main_while0b_v29 : Ref sig .tc := ⟨.hbm, 46, rfl⟩
abbrev main_while0b_v30 : Ref sig .tc := ⟨.hbm, 47, rfl⟩
abbrev main_while0b_v31 : Ref sig .tc := ⟨.hbm, 48, rfl⟩
abbrev main_while0b_cst_8 : Ref sig .tc := ⟨.hbm, 49, rfl⟩
abbrev main_while0b_v32 : Ref sig .tc := ⟨.hbm, 50, rfl⟩
abbrev main_while0b_v33 : Ref sig .tc := ⟨.hbm, 51, rfl⟩
abbrev main_while0b_cst_9 : Ref sig .tc := ⟨.hbm, 52, rfl⟩
abbrev main_while0b_v34 : Ref sig .tc := ⟨.hbm, 53, rfl⟩
abbrev main_while0b_v35 : Ref sig .tc := ⟨.hbm, 54, rfl⟩
abbrev main_while0b_v36 : Ref sig .tc := ⟨.hbm, 55, rfl⟩
abbrev main_while0b_v37 : Ref sig .tc := ⟨.hbm, 56, rfl⟩
abbrev main_while0b_v38 : Ref sig .tc := ⟨.hbm, 57, rfl⟩
abbrev main_while0b_cst_10 : Ref sig .tc := ⟨.hbm, 58, rfl⟩
abbrev main_while0b_v39 : Ref sig .tc := ⟨.hbm, 59, rfl⟩
abbrev main_while0b_v40 : Ref sig .tc := ⟨.hbm, 60, rfl⟩
abbrev main_while0b_cst_11 : Ref sig .tc := ⟨.hbm, 61, rfl⟩
abbrev main_while0b_v41 : Ref sig .tc := ⟨.hbm, 62, rfl⟩
abbrev main_while0b_v42 : Ref sig .tc := ⟨.hbm, 63, rfl⟩
abbrev main_while0b_v43 : Ref sig .tc := ⟨.hbm, 64, rfl⟩
abbrev main_while0b_v44 : Ref sig .tc := ⟨.hbm, 65, rfl⟩
abbrev main_while0b_v45 : Ref sig .tc := ⟨.hbm, 66, rfl⟩
abbrev main_while0b_v46 : Ref sig .tc := ⟨.hbm, 67, rfl⟩
abbrev main_while0b_v47 : Ref sig .tc := ⟨.hbm, 68, rfl⟩
abbrev main_while0b_c_12 : Ref sig .tc := ⟨.hbm, 69, rfl⟩
abbrev main_while0b_v48 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩

abbrev nD : Nat := 1
abbrev τ : Topo := Topo.v7x

variable {F : FTy → Type} [FloatOps F]

abbrev main_while0_count : Scf.Loop 32 := ⟨0#32, 512#32, 1#32⟩
-- ==== Proof.KernelIdeal.Trip.lean ====
/-
  One trip of the kernel's time loop. A chain is one of the eight groups of 256 batch columns of a block; its state is the operand
  of its matrix product and its cell state. `step` is one step of the recurrence on a chain as the kernel computes it, and
  `trip` says that a trip of the loop makes that step on each of the eight chains.
-/
module

public import proofs.«01_k».proof.Proof.Gen.KernelIdeal.Frame
public import proofs.«01_k».proof.Proof.Gen.KernelIdeal.Loops
public import Idealize.ShloMosaic.Lib.VecWindow
public import Idealize.ShloMosaic.Lib.Exec
public import Idealize.ShloMosaic.Lib.Tactic

@[expose] public section

set_option maxRecDepth 16384

noncomputable section

namespace Cert.KernelIdeal.Lstm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- One chain's state: the operand of its matrix product (the step's input rows, the rows that carry the bias, the hidden rows) and its cell state. -/
abbrev ChainState (F : FTy → Type) : Type := Vec F S40x256 .f32 × Vec F S32x256 .f32

/-- The five rows of chain `q` at step `k` lie inside the block. -/
theorem xAt_inb (q : Fin 8) (k : Fin 64) : ∀ a, (![k.val, 0, 256 * q.val] : Fin 3 → ℕ) a + S1x5x256.size a ≤ S64x5x2048.size a := by
  intro a
  have hk := k.isLt
  have hq := q.isLt
  match a with
  | ⟨0, _⟩ => show k.val + 1 ≤ 64; omega
  | ⟨1, _⟩ => show 0 + 5 ≤ 5; omega
  | ⟨2, _⟩ => show 256 * q.val + 256 ≤ 2048; omega

/-- The input of chain `q` at step `k` of a block: five rows of 256 batch columns. -/
def xAt (X : Vec F S64x5x2048 .f32) (q : Fin 8) (k : Fin 64) : Vec F S1x5x256 .f32 :=
  VecWindow.window X ![k.val, 0, 256 * q.val] S1x5x256.size (xAt_inb q k)

/-- A chain's operand with the input rows put in. -/
def feed (x : Vec F S1x5x256 .f32) (I : Vec F S40x256 .f32) : Vec F S40x256 .f32 :=
  VecWindow.put I ![0, 0] S5x256.size (k0_pay35 x)

/-- One step of one chain: the input rows are put in, the gates are computed from the product, the cell state is replaced, and the hidden rows are put in. -/
def step (W : Vec F S128x40 .f32) (x : Vec F S1x5x256 .f32) (s : ChainState F) : ChainState F :=
  (VecWindow.put (feed x s.1) ![8, 0] S32x256.size (k0_pay39 W (feed x s.1) s.2), k0_pay38 W (feed x s.1) s.2)

/-- The offsets at which each chain's load of the input starts, in closed form. -/
theorem offs (k : Fin 64) : k0_off1 k = ![k.val, 0, 256 * 0] ∧ k0_off2 k = ![k.val, 0, 256 * 1] ∧ k0_off3 k = ![k.val, 0, 256 * 2]
    ∧ k0_off4 k = ![k.val, 0, 256 * 3] ∧ k0_off5 k = ![k.val, 0, 256 * 4] ∧ k0_off6 k = ![k.val, 0, 256 * 5]
    ∧ k0_off7 k = ![k.val, 0, 256 * 6] ∧ k0_off8 k = ![k.val, 0, 256 * 7] :=
  ⟨k0_off1_eq k, k0_off2_eq k, k0_off3_eq k, k0_off4_eq k, k0_off5_eq k, k0_off6_eq k, k0_off7_eq k, k0_off8_eq k⟩

/-- A memref's region held at contents that read as `X` is the memref owned at `X`. -/
theorem owns_of_read (c : Dev nD) {sp : Space} {s : Shape} {e : EltTy} (m : Memref sig .tc sp s e) {q : PosShare TreeShare}
    {f : m.view.ty.Contents (Elt F)} {X : s.Idx → Elt F e} (h : m.view.read (Elt F) f = X) :
    (m.view.loc (c : Thread nD τ) ↦[m.view.set]{q} f : sProp 𝕄)
      ⊢ iprop(∃ g : m.view.ty.Contents (Elt F), ⌜m.view.read (Elt F) g = X⌝ ∗ (m.view.loc (c : Thread nD τ) ↦[m.view.set]{q} g)) := by
  iintro H
  iexists _
  isplitr
  · ipureintro; exact h
  · iexact H

section Reads

variable {m2 : Memref sig .tc .vmem S64x5x2048 .f32} {m3 : Memref sig .tc .vmem S128x40 .f32}
  {mi : Memref sig .tc .vmem S40x256 .f32} {mc : Memref sig .tc .vmem S32x256 .f32}
  {f2 : m2.view.ty.Contents (Elt F)} {f3 : m3.view.ty.Contents (Elt F)} {fi : mi.view.ty.Contents (Elt F)} {fc : mc.view.ty.Contents (Elt F)}
  {X : Vec F S64x5x2048 .f32} {W : Vec F S128x40 .f32} {s : ChainState F}

/-- What a chain's operand reads after the input rows are stored. -/
theorem read_feed (h2 : m2.view.read (Elt F) f2 = X) (hi : mi.view.read (Elt F) fi = s.1) (q : Fin 8) (k : Fin 64)
    {off : Fin 3 → ℕ} (hoff : off = ![k.val, 0, 256 * q.val]) (inb2 : ∀ a, off a + S1x5x256.size a ≤ S64x5x2048.size a)
    (inb5 : ∀ a, (![0, 0] : Fin 2 → ℕ) a + S5x256.size a ≤ S40x256.size a) :
    mi.view.read (Elt F) (mi.view.writes (Elt F) fi
      [⟨Rect.unit ![0, 0] S5x256.size inb5, k0_pay35 (m2.view.readAt (Elt F) (Rect.unit (s := S64x5x2048) off S1x5x256.size inb2).toLoadRect f2)⟩])
      = feed (xAt X q k) s.1 := by
  rw [View.read_writes_cons_put mi.view fi inb5 _ [] rfl, View.readAt_unit m2.view f2 inb2 hoff (xAt_inb q k), h2, View.writes_nil, hi]
  rfl

/-- What a trip leaves in a chain's operand: the first component of the step. -/
theorem read_inp (h2 : m2.view.read (Elt F) f2 = X) (h3 : m3.view.read (Elt F) f3 = W) (hi : mi.view.read (Elt F) fi = s.1)
    (hc : mc.view.read (Elt F) fc = s.2) (q : Fin 8) (k : Fin 64)
    {off : Fin 3 → ℕ} (hoff : off = ![k.val, 0, 256 * q.val]) (inb2 : ∀ a, off a + S1x5x256.size a ≤ S64x5x2048.size a)
    (inb3 : ∀ a, (![0, 0] : Fin 2 → ℕ) a + S128x40.size a ≤ S128x40.size a)
    (inb5 : ∀ a, (![0, 0] : Fin 2 → ℕ) a + S5x256.size a ≤ S40x256.size a)
    (inb40 : ∀ a, (![0, 0] : Fin 2 → ℕ) a + S40x256.size a ≤ S40x256.size a)
    (inb32 : ∀ a, (![0, 0] : Fin 2 → ℕ) a + S32x256.size a ≤ S32x256.size a)
    (inb8 : ∀ a, (![8, 0] : Fin 2 → ℕ) a + S32x256.size a ≤ S40x256.size a) :
    mi.view.read (Elt F) (mi.view.writes (Elt F) fi
      [⟨Rect.unit ![8, 0] S32x256.size inb8,
        k0_pay39 (m3.view.readAt (Elt F) (Rect.unit ![0, 0] S128x40.size inb3).toLoadRect f3)
          (mi.view.readAt (Elt F) (Rect.unit ![0, 0] S40x256.size inb40).toLoadRect (mi.view.writes (Elt F) fi
            [⟨Rect.unit ![0, 0] S5x256.size inb5, k0_pay35 (m2.view.readAt (Elt F) (Rect.unit (s := S64x5x2048) off S1x5x256.size inb2).toLoadRect f2)⟩]))
          (mc.view.readAt (Elt F) (Rect.unit ![0, 0] S32x256.size inb32).toLoadRect fc)⟩,
       ⟨Rect.unit ![0, 0] S5x256.size inb5, k0_pay35 (m2.view.readAt (Elt F) (Rect.unit (s := S64x5x2048) off S1x5x256.size inb2).toLoadRect f2)⟩])
      = (step W (xAt X q k) s).1 := by
  rw [View.read_writes_cons_put mi.view fi inb8 _ _ rfl, View.readAt_full m3.view f3 inb3, View.readAt_full mi.view _ inb40,
    View.readAt_full mc.view fc inb32, read_feed h2 hi q k hoff inb2 inb5, h3, hc]
  rfl

/-- What a trip leaves in a chain's cell state: the second component of the step. -/
theorem read_cell (h2 : m2.view.read (Elt F) f2 = X) (h3 : m3.view.read (Elt F) f3 = W) (hi : mi.view.read (Elt F) fi = s.1)
    (hc : mc.view.read (Elt F) fc = s.2) (q : Fin 8) (k : Fin 64)
    {off : Fin 3 → ℕ} (hoff : off = ![k.val, 0, 256 * q.val]) (inb2 : ∀ a, off a + S1x5x256.size a ≤ S64x5x2048.size a)
    (inb3 : ∀ a, (![0, 0] : Fin 2 → ℕ) a + S128x40.size a ≤ S128x40.size a)
    (inb5 : ∀ a, (![0, 0] : Fin 2 → ℕ) a + S5x256.size a ≤ S40x256.size a)
    (inb40 : ∀ a, (![0, 0] : Fin 2 → ℕ) a + S40x256.size a ≤ S40x256.size a)
    (inb32 : ∀ a, (![0, 0] : Fin 2 → ℕ) a + S32x256.size a ≤ S32x256.size a) :
    mc.view.read (Elt F) (mc.view.writes (Elt F) fc
      [⟨Rect.unit ![0, 0] S32x256.size inb32,
        k0_pay38 (m3.view.readAt (Elt F) (Rect.unit ![0, 0] S128x40.size inb3).toLoadRect f3)
          (mi.view.readAt (Elt F) (Rect.unit ![0, 0] S40x256.size inb40).toLoadRect (mi.view.writes (Elt F) fi
            [⟨Rect.unit ![0, 0] S5x256.size inb5, k0_pay35 (m2.view.readAt (Elt F) (Rect.unit (s := S64x5x2048) off S1x5x256.size inb2).toLoadRect f2)⟩]))
          (mc.view.readAt (Elt F) (Rect.unit ![0, 0] S32x256.size inb32).toLoadRect fc)⟩])
      = (step W (xAt X q k) s).2 := by
  rw [View.read_writes_full mc.view fc inb32, View.readAt_full m3.view f3 inb3, View.readAt_full mi.view _ inb40,
    View.readAt_full mc.view fc inb32, read_feed h2 hi q k hoff inb2 inb5, h3, hc]
  rfl

end Reads

/-- The two inputs a trip reads and the sixteen scratch arrays, each owned at its contents. -/
def res (c : Dev nD) (arg2 : Memref sig .tc .vmem S64x5x2048 .f32) (harg2 : arg2.IsWhole) (arg3 : Memref sig .tc .vmem S128x40 .f32) (harg3 : arg3.IsWhole) (arg4 : Memref sig .tc .vmem S8x40 .f32) (harg4 : arg4.IsWhole) (arg5 : Memref sig .tc .vmem S8x2048 .f32) (harg5 : arg5.IsWhole)
    (arg6 : Memref sig .tc .vmem S40x256 .f32) (harg6 : arg6.IsWhole) (arg7 : Memref sig .tc .vmem S40x256 .f32) (harg7 : arg7.IsWhole) (arg8 : Memref sig .tc .vmem S40x256 .f32) (harg8 : arg8.IsWhole) (arg9 : Memref sig .tc .vmem S40x256 .f32) (harg9 : arg9.IsWhole)
    (arg10 : Memref sig .tc .vmem S40x256 .f32) (harg10 : arg10.IsWhole) (arg11 : Memref sig .tc .vmem S40x256 .f32) (harg11 : arg11.IsWhole) (arg12 : Memref sig .tc .vmem S40x256 .f32) (harg12 : arg12.IsWhole) (arg13 : Memref sig .tc .vmem S40x256 .f32) (harg13 : arg13.IsWhole)
    (arg14 : Memref sig .tc .vmem S32x256 .f32) (harg14 : arg14.IsWhole) (arg15 : Memref sig .tc .vmem S32x256 .f32) (harg15 : arg15.IsWhole) (arg16 : Memref sig .tc .vmem S32x256 .f32) (harg16 : arg16.IsWhole) (arg17 : Memref sig .tc .vmem S32x256 .f32) (harg17 : arg17.IsWhole)
    (arg18 : Memref sig .tc .vmem S32x256 .f32) (harg18 : arg18.IsWhole) (arg19 : Memref sig .tc .vmem S32x256 .f32) (harg19 : arg19.IsWhole) (arg20 : Memref sig .tc .vmem S32x256 .f32) (harg20 : arg20.IsWhole) (arg21 : Memref sig .tc .vmem S32x256 .f32) (harg21 : arg21.IsWhole)
    (X : Vec F S64x5x2048 .f32) (W : Vec F S128x40 .f32) (S : Fin 8 → ChainState F) : sProp 𝕄 :=
  iprop(owns (c : Thread nD τ) arg2 fullShare X ∗ owns (c : Thread nD τ) arg3 fullShare W
    ∗ owns (c : Thread nD τ) arg6 fullShare (S 0).1 ∗ owns (c : Thread nD τ) arg7 fullShare (S 1).1 ∗ owns (c : Thread nD τ) arg8 fullShare (S 2).1 ∗ owns (c : Thread nD τ) arg9 fullShare (S 3).1
    ∗ owns (c : Thread nD τ) arg10 fullShare (S 4).1 ∗ owns (c : Thread nD τ) arg11 fullShare (S 5).1 ∗ owns (c : Thread nD τ) arg12 fullShare (S 6).1 ∗ owns (c : Thread nD τ) arg13 fullShare (S 7).1
    ∗ owns (c : Thread nD τ) arg14 fullShare (S 0).2 ∗ owns (c : Thread nD τ) arg15 fullShare (S 1).2 ∗ owns (c : Thread nD τ) arg16 fullShare (S 2).2 ∗ owns (c : Thread nD τ) arg17 fullShare (S 3).2
    ∗ owns (c : Thread nD τ) arg18 fullShare (S 4).2 ∗ owns (c : Thread nD τ) arg19 fullShare (S 5).2 ∗ owns (c : Thread nD τ) arg20 fullShare (S 6).2 ∗ owns (c : Thread nD τ) arg21 fullShare (S 7).2)

set_option maxHeartbeats 4000000 in
/-- One trip makes one step on each of the eight chains. -/
theorem trip (c : Dev nD) (i : grid0.Coords) (arg2 : Memref sig .tc .vmem S64x5x2048 .f32) (harg2 : arg2.IsWhole) (arg3 : Memref sig .tc .vmem S128x40 .f32) (harg3 : arg3.IsWhole) (arg4 : Memref sig .tc .vmem S8x40 .f32) (harg4 : arg4.IsWhole) (arg5 : Memref sig .tc .vmem S8x2048 .f32) (harg5 : arg5.IsWhole)
    (arg6 : Memref sig .tc .vmem S40x256 .f32) (harg6 : arg6.IsWhole) (arg7 : Memref sig .tc .vmem S40x256 .f32) (harg7 : arg7.IsWhole) (arg8 : Memref sig .tc .vmem S40x256 .f32) (harg8 : arg8.IsWhole) (arg9 : Memref sig .tc .vmem S40x256 .f32) (harg9 : arg9.IsWhole)
    (arg10 : Memref sig .tc .vmem S40x256 .f32) (harg10 : arg10.IsWhole) (arg11 : Memref sig .tc .vmem S40x256 .f32) (harg11 : arg11.IsWhole) (arg12 : Memref sig .tc .vmem S40x256 .f32) (harg12 : arg12.IsWhole) (arg13 : Memref sig .tc .vmem S40x256 .f32) (harg13 : arg13.IsWhole)
    (arg14 : Memref sig .tc .vmem S32x256 .f32) (harg14 : arg14.IsWhole) (arg15 : Memref sig .tc .vmem S32x256 .f32) (harg15 : arg15.IsWhole) (arg16 : Memref sig .tc .vmem S32x256 .f32) (harg16 : arg16.IsWhole) (arg17 : Memref sig .tc .vmem S32x256 .f32) (harg17 : arg17.IsWhole)
    (arg18 : Memref sig .tc .vmem S32x256 .f32) (harg18 : arg18.IsWhole) (arg19 : Memref sig .tc .vmem S32x256 .f32) (harg19 : arg19.IsWhole) (arg20 : Memref sig .tc .vmem S32x256 .f32) (harg20 : arg20.IsWhole) (arg21 : Memref sig .tc .vmem S32x256 .f32) (harg21 : arg21.IsWhole)
    (X : Vec F S64x5x2048 .f32) (W : Vec F S128x40 .f32) (S : Fin 8 → ChainState F) (E : Set ℕ) (k : Fin 64) (acc : Unit) :
    res c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W S
      ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k acc)
          (fun _ => res c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W (fun q => step W (xAt X q k) (S q))) := by
  obtain ⟨o0, o1, o2, o3, o4, o5, o6, o7⟩ := offs k
  unfold k0_t1_body
  simp only [k0_part3_eq_skeleton, k0_part4_eq_skeleton, k0_part5_eq_skeleton, k0_part6_eq_skeleton, k0_part7_eq_skeleton, k0_part8_eq_skeleton, k0_part9_eq_skeleton]
  unfold res owns
  iintro ⟨⟨%f2, %h2, H2⟩, ⟨%f3, %h3, H3⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩⟩
  sl_exec
  sl_step
  isplitl [H2]; · iapply (owns_of_read c arg2 (h2)); iexact H2
  isplitl [H3]; · iapply (owns_of_read c arg3 (h3)); iexact H3
  isplitl [H6]; · iapply (owns_of_read c arg6 (read_inp h2 h3 h6 h14 0 k o0 _ _ _ _ _ _)); iexact H6
  isplitl [H7]; · iapply (owns_of_read c arg7 (read_inp h2 h3 h7 h15 1 k o1 _ _ _ _ _ _)); iexact H7
  isplitl [H8]; · iapply (owns_of_read c arg8 (read_inp h2 h3 h8 h16 2 k o2 _ _ _ _ _ _)); iexact H8
  isplitl [H9]; · iapply (owns_of_read c arg9 (read_inp h2 h3 h9 h17 3 k o3 _ _ _ _ _ _)); iexact H9
  isplitl [H10]; · iapply (owns_of_read c arg10 (read_inp h2 h3 h10 h18 4 k o4 _ _ _ _ _ _)); iexact H10
  isplitl [H11]; · iapply (owns_of_read c arg11 (read_inp h2 h3 h11 h19 5 k o5 _ _ _ _ _ _)); iexact H11
  isplitl [H12]; · iapply (owns_of_read c arg12 (read_inp h2 h3 h12 h20 6 k o6 _ _ _ _ _ _)); iexact H12
  isplitl [H13]; · iapply (owns_of_read c arg13 (read_inp h2 h3 h13 h21 7 k o7 _ _ _ _ _ _)); iexact H13
  isplitl [H14]; · iapply (owns_of_read c arg14 (read_cell h2 h3 h6 h14 0 k o0 _ _ _ _ _)); iexact H14
  isplitl [H15]; · iapply (owns_of_read c arg15 (read_cell h2 h3 h7 h15 1 k o1 _ _ _ _ _)); iexact H15
  isplitl [H16]; · iapply (owns_of_read c arg16 (read_cell h2 h3 h8 h16 2 k o2 _ _ _ _ _)); iexact H16
  isplitl [H17]; · iapply (owns_of_read c arg17 (read_cell h2 h3 h9 h17 3 k o3 _ _ _ _ _)); iexact H17
  isplitl [H18]; · iapply (owns_of_read c arg18 (read_cell h2 h3 h10 h18 4 k o4 _ _ _ _ _)); iexact H18
  isplitl [H19]; · iapply (owns_of_read c arg19 (read_cell h2 h3 h11 h19 5 k o5 _ _ _ _ _)); iexact H19
  isplitl [H20]; · iapply (owns_of_read c arg20 (read_cell h2 h3 h12 h20 6 k o6 _ _ _ _ _)); iexact H20
  iapply (owns_of_read c arg21 (read_cell h2 h3 h13 h21 7 k o7 _ _ _ _ _)); iexact H21

end Cert.KernelIdeal.Lstm

end
-- ==== Proof.KernelIdeal.Body.lean ====
/-
  The kernel's body at one grid point. A point of the first time chunk starts every chain at the zero state (`start`); every point
  makes the chunk's 64 steps (`runs`); a point of the last time chunk writes the output block (`outBlock`), the fully connected
  layer's product on each chain. The three triples say this of the three kinds of points.
-/
module

public import proofs.«01_k».proof.Proof.KernelIdeal.Trip
public import Idealize.ShloMosaic.Lib.ValueIdxCore

@[expose] public section

set_option maxRecDepth 16384

noncomputable section

namespace Cert.KernelIdeal.Lstm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- A chain's entry state: the rows that carry the bias and the hidden rows are put in, the cell state is zero. -/
def start (s : ChainState F) : ChainState F :=
  (VecWindow.put (VecWindow.put s.1 ![5, 0] S3x256.size (k0_pay4 (F := F))) ![8, 0] S32x256.size (k0_pay5 (F := F)), k0_pay3 (F := F))

/-- The first `n` steps of chain `q` over a block's 64 time steps. -/
def runs (W : Vec F S128x40 .f32) (X : Vec F S64x5x2048 .f32) (q : Fin 8) (s : ChainState F) : ℕ → ChainState F
  | 0 => s
  | n + 1 => if h : n < 64 then step W (xAt X q ⟨n, h⟩) (runs W X q s n) else runs W X q s n

theorem runs_zero (W : Vec F S128x40 .f32) (X : Vec F S64x5x2048 .f32) (q : Fin 8) (s : ChainState F) : runs W X q s 0 = s := rfl

theorem runs_succ (W : Vec F S128x40 .f32) (X : Vec F S64x5x2048 .f32) (q : Fin 8) (s : ChainState F) (k : Fin 64) :
    runs W X q s (k.val + 1) = step W (xAt X q k) (runs W X q s k.val) := by
  show (if h : k.val < 64 then _ else _) = _
  rw [dif_pos k.isLt]

-- no step of the recurrence is to be unfolded from here on: `runs_zero` and `runs_succ` say what the steps are
attribute [irreducible] runs

/-- The output block: column `256 q + l` is column `l` of the fully connected layer's product on chain `q`. -/
def outBlock (Wf : Vec F S8x40 .f32) (S : Fin 8 → ChainState F) : Vec F S8x2048 .f32 := fun y =>
  k0_pay14 Wf (S ⟨(y 1).val / 256, by have : (y 1).val < 2048 := (y 1).isLt; omega⟩).1 (ValueIdx.ix2 (n0 := 8) (n1 := 256) (y 0) ⟨(y 1).val % 256, Nat.mod_lt _ (by decide)⟩)

/-- A point of the first time chunk. -/
abbrev isFirst (i : grid0.Coords) : Prop := (Scalar.cmpi .ne (Scalar.extui (Scalar.cmpi .eq (BitVec.ofNat 32 (i 1).val) 0#32)) 0#32) = 1#1

/-- A point of the last time chunk. -/
abbrev isLast (i : grid0.Coords) : Prop := k0_cond2 i = 1#1

section Points

variable (c : Dev nD) (i : grid0.Coords)
  (arg2 : Memref sig .tc .vmem S64x5x2048 .f32) (harg2 : arg2.IsWhole) (arg3 : Memref sig .tc .vmem S128x40 .f32) (harg3 : arg3.IsWhole) (arg4 : Memref sig .tc .vmem S8x40 .f32) (harg4 : arg4.IsWhole) (arg5 : Memref sig .tc .vmem S8x2048 .f32) (harg5 : arg5.IsWhole)
  (arg6 : Memref sig .tc .vmem S40x256 .f32) (harg6 : arg6.IsWhole) (arg7 : Memref sig .tc .vmem S40x256 .f32) (harg7 : arg7.IsWhole) (arg8 : Memref sig .tc .vmem S40x256 .f32) (harg8 : arg8.IsWhole) (arg9 : Memref sig .tc .vmem S40x256 .f32) (harg9 : arg9.IsWhole)
  (arg10 : Memref sig .tc .vmem S40x256 .f32) (harg10 : arg10.IsWhole) (arg11 : Memref sig .tc .vmem S40x256 .f32) (harg11 : arg11.IsWhole) (arg12 : Memref sig .tc .vmem S40x256 .f32) (harg12 : arg12.IsWhole) (arg13 : Memref sig .tc .vmem S40x256 .f32) (harg13 : arg13.IsWhole)
  (arg14 : Memref sig .tc .vmem S32x256 .f32) (harg14 : arg14.IsWhole) (arg15 : Memref sig .tc .vmem S32x256 .f32) (harg15 : arg15.IsWhole) (arg16 : Memref sig .tc .vmem S32x256 .f32) (harg16 : arg16.IsWhole) (arg17 : Memref sig .tc .vmem S32x256 .f32) (harg17 : arg17.IsWhole)
  (arg18 : Memref sig .tc .vmem S32x256 .f32) (harg18 : arg18.IsWhole) (arg19 : Memref sig .tc .vmem S32x256 .f32) (harg19 : arg19.IsWhole) (arg20 : Memref sig .tc .vmem S32x256 .f32) (harg20 : arg20.IsWhole) (arg21 : Memref sig .tc .vmem S32x256 .f32) (harg21 : arg21.IsWhole)
  (X : Vec F S64x5x2048 .f32) (W : Vec F S128x40 .f32) (S : Fin 8 → ChainState F) (Wf : Vec F S8x40 .f32) (O : Vec F S8x2048 .f32)

set_option maxHeartbeats 4000000 in
/-- One trip of the loop, over the states that the trips before it made. -/
theorem loop_step (k : Fin 64) (acc : Unit) :
    res c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W (fun q => runs W X q (S q) k.val)
      ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k acc)
          (fun _ => res c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W (fun q => runs W X q (S q) (k.val + 1))) := by
  have e : (fun q => runs W X q (S q) (k.val + 1)) = fun q => step W (xAt X q k) (runs W X q (S q) k.val) := funext fun q => runs_succ W X q (S q) k
  rw [e]
  exact trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W (fun q => runs W X q (S q) k.val) Set.univ k acc

set_option maxHeartbeats 4000000 in
/-- The time loop: before trip `k` every chain has made `k` steps. -/
@[instance_reducible] def loop : LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 :=
  LoopInv.mk (fun k _ => res c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W (fun q => runs W X q (S q) k)) (loop_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W S)

/-- A chain's columns put into the output block, at an index. -/
theorem put_columns (base : Vec F S8x2048 .f32) (j : Fin 8) (p : FVec F S8x256 .f32) (y : S8x2048.Idx) :
    VecWindow.put base ![0, 256 * j.val] S8x256.size p y
      = if (⟨(y 1).val / 256, by have : (y 1).val < 2048 := (y 1).isLt; omega⟩ : Fin 8) = j
        then p (ValueIdx.ix2 (n0 := 8) (n1 := 256) (y 0) ⟨(y 1).val % 256, Nat.mod_lt _ (by decide)⟩) else base y := by
  have h0 : (y 0).val < 8 := (y 0).isLt
  have h1 : (y 1).val < 2048 := (y 1).isLt
  unfold VecWindow.put
  by_cases h : (y 1).val / 256 = j.val
  · have hin : ∀ a, (![0, 256 * j.val] : Fin 2 → ℕ) a ≤ (y a).val ∧ (y a).val < (![0, 256 * j.val] : Fin 2 → ℕ) a + S8x256.size a := by
      intro a
      match a with
      | ⟨0, _⟩ => show 0 ≤ (y 0).val ∧ (y 0).val < 0 + 8; omega
      | ⟨1, _⟩ => show 256 * j.val ≤ (y 1).val ∧ (y 1).val < 256 * j.val + 256; omega
    rw [dif_pos hin, if_pos (Fin.ext h)]
    refine congrArg p (funext fun a => Fin.ext ?_)
    match a with
    | ⟨0, _⟩ => show (y 0).val - 0 = (y 0).val; omega
    | ⟨1, _⟩ => show (y 1).val - 256 * j.val = (y 1).val % 256; omega
  · have hout : ¬ ∀ a, (![0, 256 * j.val] : Fin 2 → ℕ) a ≤ (y a).val ∧ (y a).val < (![0, 256 * j.val] : Fin 2 → ℕ) a + S8x256.size a := by
      intro hin
      have hin1 : 256 * j.val ≤ (y 1).val ∧ (y 1).val < 256 * j.val + 256 := hin 1
      omega
    rw [dif_neg hout, if_neg (fun e => h (congrArg Fin.val e))]

/-- The eight groups of columns make up the output block. -/
theorem puts_out (base : Vec F S8x2048 .f32) (Wf : Vec F S8x40 .f32) (S : Fin 8 → ChainState F) (p : Fin 8 → FVec F S8x256 .f32)
    (hp : ∀ q, p q = k0_pay14 Wf (S q).1) :
    VecWindow.put (VecWindow.put (VecWindow.put (VecWindow.put (VecWindow.put (VecWindow.put (VecWindow.put (VecWindow.put base
      ![0, 256 * (0 : Fin 8).val] S8x256.size (p 0)) ![0, 256 * (1 : Fin 8).val] S8x256.size (p 1)) ![0, 256 * (2 : Fin 8).val] S8x256.size (p 2))
      ![0, 256 * (3 : Fin 8).val] S8x256.size (p 3)) ![0, 256 * (4 : Fin 8).val] S8x256.size (p 4)) ![0, 256 * (5 : Fin 8).val] S8x256.size (p 5))
      ![0, 256 * (6 : Fin 8).val] S8x256.size (p 6)) ![0, 256 * (7 : Fin 8).val] S8x256.size (p 7) = outBlock Wf S := by
  funext y
  rw [put_columns, put_columns, put_columns, put_columns, put_columns, put_columns, put_columns, put_columns]
  unfold outBlock
  simp only [hp]
  generalize (⟨(y 1).val / 256, _⟩ : Fin 8) = q
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The fully connected layer's product on a chain, over what its two loads read. -/
theorem read_head {m4 : Memref sig .tc .vmem S8x40 .f32} {mi : Memref sig .tc .vmem S40x256 .f32} {f4 : m4.view.ty.Contents (Elt F)} {fi : mi.view.ty.Contents (Elt F)}
    {Wf : Vec F S8x40 .f32} {I : Vec F S40x256 .f32} (h4 : m4.view.read (Elt F) f4 = Wf) (hi : mi.view.read (Elt F) fi = I)
    (inb4 : ∀ a, (![0, 0] : Fin 2 → ℕ) a + S8x40.size a ≤ S8x40.size a) (inb40 : ∀ a, (![0, 0] : Fin 2 → ℕ) a + S40x256.size a ≤ S40x256.size a) :
    k0_pay14 (m4.view.readAt (Elt F) (Rect.unit ![0, 0] S8x40.size inb4).toLoadRect f4) (mi.view.readAt (Elt F) (Rect.unit ![0, 0] S40x256.size inb40).toLoadRect fi)
      = k0_pay14 Wf I := by
  rw [View.readAt_full m4.view f4 inb4, View.readAt_full mi.view fi inb40, h4, hi]

/-- What the eight stores leave in the output block. -/
theorem read_out {mo : Memref sig .tc .vmem S8x2048 .f32} (fo : mo.view.ty.Contents (Elt F)) {Wf : Vec F S8x40 .f32} {S : Fin 8 → ChainState F}
    {p0 p1 p2 p3 p4 p5 p6 p7 : FVec F S8x256 .f32} (e0 : p0 = k0_pay14 Wf (S 0).1) (e1 : p1 = k0_pay14 Wf (S 1).1) (e2 : p2 = k0_pay14 Wf (S 2).1)
    (e3 : p3 = k0_pay14 Wf (S 3).1) (e4 : p4 = k0_pay14 Wf (S 4).1) (e5 : p5 = k0_pay14 Wf (S 5).1) (e6 : p6 = k0_pay14 Wf (S 6).1) (e7 : p7 = k0_pay14 Wf (S 7).1)
    (b0 : ∀ a, (![0, 0] : Fin 2 → ℕ) a + S8x256.size a ≤ S8x2048.size a) (b1 : ∀ a, (![0, 256] : Fin 2 → ℕ) a + S8x256.size a ≤ S8x2048.size a)
    (b2 : ∀ a, (![0, 512] : Fin 2 → ℕ) a + S8x256.size a ≤ S8x2048.size a) (b3 : ∀ a, (![0, 768] : Fin 2 → ℕ) a + S8x256.size a ≤ S8x2048.size a)
    (b4 : ∀ a, (![0, 1024] : Fin 2 → ℕ) a + S8x256.size a ≤ S8x2048.size a) (b5 : ∀ a, (![0, 1280] : Fin 2 → ℕ) a + S8x256.size a ≤ S8x2048.size a)
    (b6 : ∀ a, (![0, 1536] : Fin 2 → ℕ) a + S8x256.size a ≤ S8x2048.size a) (b7 : ∀ a, (![0, 1792] : Fin 2 → ℕ) a + S8x256.size a ≤ S8x2048.size a) :
    mo.view.read (Elt F) (mo.view.writes (Elt F) fo
      [⟨Rect.unit ![0, 1792] S8x256.size b7, p7⟩, ⟨Rect.unit ![0, 1536] S8x256.size b6, p6⟩, ⟨Rect.unit ![0, 1280] S8x256.size b5, p5⟩,
       ⟨Rect.unit ![0, 1024] S8x256.size b4, p4⟩, ⟨Rect.unit ![0, 768] S8x256.size b3, p3⟩, ⟨Rect.unit ![0, 512] S8x256.size b2, p2⟩,
       ⟨Rect.unit ![0, 256] S8x256.size b1, p1⟩, ⟨Rect.unit ![0, 0] S8x256.size b0, p0⟩]) = outBlock Wf S := by
  rw [View.read_writes_cons_put mo.view fo b7 _ _ rfl, View.read_writes_cons_put mo.view fo b6 _ _ rfl, View.read_writes_cons_put mo.view fo b5 _ _ rfl,
    View.read_writes_cons_put mo.view fo b4 _ _ rfl, View.read_writes_cons_put mo.view fo b3 _ _ rfl, View.read_writes_cons_put mo.view fo b2 _ _ rfl,
    View.read_writes_cons_put mo.view fo b1 _ _ rfl, View.read_writes_cons_put mo.view fo b0 _ _ rfl]
  subst e0 e1 e2 e3 e4 e5 e6 e7
  exact puts_out _ Wf S (fun q => k0_pay14 Wf (S q).1) (fun _ => rfl)

/-- What the start leaves in a chain's operand. -/
theorem read_start {mi : Memref sig .tc .vmem S40x256 .f32} {fi : mi.view.ty.Contents (Elt F)} {s : ChainState F} (hi : mi.view.read (Elt F) fi = s.1)
    (w8 : FVec F S32x256 .f32) (w3 : FVec F S3x256 .f32) (e8 : w8 = k0_pay5 (F := F)) (e3 : w3 = k0_pay4 (F := F))
    (inb3 : ∀ a, (![5, 0] : Fin 2 → ℕ) a + S3x256.size a ≤ S40x256.size a) (inb8 : ∀ a, (![8, 0] : Fin 2 → ℕ) a + S32x256.size a ≤ S40x256.size a) :
    mi.view.read (Elt F) (mi.view.writes (Elt F) fi
      [⟨Rect.unit ![8, 0] S32x256.size inb8, w8⟩, ⟨Rect.unit ![5, 0] S3x256.size inb3, w3⟩]) = (start s).1 := by
  subst e8 e3
  rw [View.read_writes_cons_put mi.view fi inb8 _ _ rfl, View.read_writes_cons_put mi.view fi inb3 _ _ rfl, View.writes_nil, hi]
  rfl

/-- What the start leaves in a chain's cell state. -/
theorem read_start_cell {mc : Memref sig .tc .vmem S32x256 .f32} {fc : mc.view.ty.Contents (Elt F)} {s : ChainState F}
    (w : FVec F S32x256 .f32) (e : w = k0_pay3 (F := F)) (inb32 : ∀ a, (![0, 0] : Fin 2 → ℕ) a + S32x256.size a ≤ S32x256.size a) :
    mc.view.read (Elt F) (mc.view.writes (Elt F) fc [⟨Rect.unit ![0, 0] S32x256.size inb32, w⟩]) = (start s).2 := by
  subst e
  rw [View.read_writes_full mc.view fc inb32]
  rfl

set_option maxHeartbeats 4000000 in
/-- A point of a middle time chunk: every chain makes 64 steps; the output block stays. -/
theorem body_middle (h0 : ¬ isFirst i) (h1 : ¬ isLast i) :
    iprop(res c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W S ∗ owns (c : Thread nD τ) arg4 fullShare Wf ∗ owns (c : Thread nD τ) arg5 fullShare O)
      ⊢ wp frame (wpE (defs₀ (F := F)) Variants.none c none) Set.univ (cc0_fatigue_lstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(res c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W (fun q => runs W X q (S q) 64) ∗ owns (c : Thread nD τ) arg4 fullShare Wf ∗ owns (c : Thread nD τ) arg5 fullShare O)) := by
  rw [cc0_fatigue_lstm_eq_skeleton]
  unfold cc0_fatigue_lstm_skel res owns
  iintro ⟨⟨⟨%f2, %h2, H2⟩, ⟨%f3, %h3, H3⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩⟩, ⟨%f4, %h4, H4⟩, ⟨%f5, %h5, H5⟩⟩
  rw [← runs_zero W X 0 (S 0)] at h6 h14
  rw [← runs_zero W X 1 (S 1)] at h7 h15
  rw [← runs_zero W X 2 (S 2)] at h8 h16
  rw [← runs_zero W X 3 (S 3)] at h9 h17
  rw [← runs_zero W X 4 (S 4)] at h10 h18
  rw [← runs_zero W X 5 (S 5)] at h11 h19
  rw [← runs_zero W X 6 (S 6)] at h12 h20
  rw [← runs_zero W X 7 (S 7)] at h13 h21
  let L := loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W S
  sl_exec (disch := first | sl_exact h0 | sl_exact h1)
  sl_step
  sl_close

set_option maxHeartbeats 4000000 in
/-- A point of the first time chunk: every chain starts at zero and makes 64 steps; the output block stays. -/
theorem body_first (h0 : isFirst i) (h1 : ¬ isLast i) :
    iprop(res c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W S ∗ owns (c : Thread nD τ) arg4 fullShare Wf ∗ owns (c : Thread nD τ) arg5 fullShare O)
      ⊢ wp frame (wpE (defs₀ (F := F)) Variants.none c none) Set.univ (cc0_fatigue_lstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(res c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W (fun q => runs W X q (start (S q)) 64) ∗ owns (c : Thread nD τ) arg4 fullShare Wf ∗ owns (c : Thread nD τ) arg5 fullShare O)) := by
  rw [cc0_fatigue_lstm_eq_skeleton]
  unfold cc0_fatigue_lstm_skel res owns
  simp only [k0_part1_eq_skeleton, k0_part2_eq_skeleton]
  iintro ⟨⟨⟨%f2, %h2, H2⟩, ⟨%f3, %h3, H3⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩⟩, ⟨%f4, %h4, H4⟩, ⟨%f5, %h5, H5⟩⟩
  sl_exec (disch := first | sl_exact h0 | sl_exact h1)
  sl_unfold_words
  ihave H6 := (owns_of_read c arg6 (read_start (s := S 0) h6 (k0_pay18 (F := F)) (k0_pay17 (k0_pay1 (F := F))) rfl rfl _ _)) $$ H6
  icases H6 with ⟨%g6, %k6, H6⟩
  ihave H7 := (owns_of_read c arg7 (read_start (s := S 1) h7 (k0_pay21 (F := F)) (k0_pay20 (k0_pay1 (F := F))) rfl rfl _ _)) $$ H7
  icases H7 with ⟨%g7, %k7, H7⟩
  ihave H8 := (owns_of_read c arg8 (read_start (s := S 2) h8 (k0_pay24 (F := F)) (k0_pay23 (k0_pay1 (F := F))) rfl rfl _ _)) $$ H8
  icases H8 with ⟨%g8, %k8, H8⟩
  ihave H9 := (owns_of_read c arg9 (read_start (s := S 3) h9 (k0_pay28 (F := F)) (k0_pay27 (k0_pay1 (F := F))) rfl rfl _ _)) $$ H9
  icases H9 with ⟨%g9, %k9, H9⟩
  ihave H10 := (owns_of_read c arg10 (read_start (s := S 4) h10 (k0_pay31 (F := F)) (k0_pay30 (k0_pay1 (F := F))) rfl rfl _ _)) $$ H10
  icases H10 with ⟨%g10, %k10, H10⟩
  ihave H11 := (owns_of_read c arg11 (read_start (s := S 5) h11 (k0_pay2 (k0_pay34 (F := F))) (k0_pay33 (k0_pay1 (F := F))) rfl rfl _ _)) $$ H11
  icases H11 with ⟨%g11, %k11, H11⟩
  ihave H12 := (owns_of_read c arg12 (read_start (s := S 6) h12 (k0_pay5 (F := F)) (k0_pay4 (F := F)) rfl rfl _ _)) $$ H12
  icases H12 with ⟨%g12, %k12, H12⟩
  ihave H13 := (owns_of_read c arg13 (read_start (s := S 7) h13 (k0_pay8 (F := F)) (k0_pay7 (F := F)) rfl rfl _ _)) $$ H13
  icases H13 with ⟨%g13, %k13, H13⟩
  ihave H14 := (owns_of_read c arg14 (read_start_cell (s := S 0) (k0_pay19 (F := F)) rfl _)) $$ H14
  icases H14 with ⟨%g14, %k14, H14⟩
  ihave H15 := (owns_of_read c arg15 (read_start_cell (s := S 1) (k0_pay22 (F := F)) rfl _)) $$ H15
  icases H15 with ⟨%g15, %k15, H15⟩
  ihave H16 := (owns_of_read c arg16 (read_start_cell (s := S 2) (k0_pay26 (k0_pay25 (F := F))) rfl _)) $$ H16
  icases H16 with ⟨%g16, %k16, H16⟩
  ihave H17 := (owns_of_read c arg17 (read_start_cell (s := S 3) (k0_pay29 (F := F)) rfl _)) $$ H17
  icases H17 with ⟨%g17, %k17, H17⟩
  ihave H18 := (owns_of_read c arg18 (read_start_cell (s := S 4) (k0_pay32 (F := F)) rfl _)) $$ H18
  icases H18 with ⟨%g18, %k18, H18⟩
  ihave H19 := (owns_of_read c arg19 (read_start_cell (s := S 5) (k0_pay3 (F := F)) rfl _)) $$ H19
  icases H19 with ⟨%g19, %k19, H19⟩
  ihave H20 := (owns_of_read c arg20 (read_start_cell (s := S 6) (k0_pay6 (F := F)) rfl _)) $$ H20
  icases H20 with ⟨%g20, %k20, H20⟩
  ihave H21 := (owns_of_read c arg21 (read_start_cell (s := S 7) (k0_pay9 (F := F)) rfl _)) $$ H21
  icases H21 with ⟨%g21, %k21, H21⟩
  rw [← runs_zero W X 0 (start (S 0))] at k6 k14
  rw [← runs_zero W X 1 (start (S 1))] at k7 k15
  rw [← runs_zero W X 2 (start (S 2))] at k8 k16
  rw [← runs_zero W X 3 (start (S 3))] at k9 k17
  rw [← runs_zero W X 4 (start (S 4))] at k10 k18
  rw [← runs_zero W X 5 (start (S 5))] at k11 k19
  rw [← runs_zero W X 6 (start (S 6))] at k12 k20
  rw [← runs_zero W X 7 (start (S 7))] at k13 k21
  let L := loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W (fun q => start (S q))
  sl_exec (disch := first | sl_exact h0 | sl_exact h1)
  sl_step
  sl_close

set_option maxHeartbeats 4000000 in
/-- A point of the last time chunk: every chain makes 64 steps, and the output block is written from what they leave. -/
theorem body_last (h0 : ¬ isFirst i) (h1 : isLast i) :
    iprop(res c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W S ∗ owns (c : Thread nD τ) arg4 fullShare Wf ∗ owns (c : Thread nD τ) arg5 fullShare O)
      ⊢ wp frame (wpE (defs₀ (F := F)) Variants.none c none) Set.univ (cc0_fatigue_lstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(res c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W (fun q => runs W X q (S q) 64) ∗ owns (c : Thread nD τ) arg4 fullShare Wf
            ∗ owns (c : Thread nD τ) arg5 fullShare (outBlock Wf (fun q => runs W X q (S q) 64)))) := by
  rw [cc0_fatigue_lstm_eq_skeleton]
  unfold cc0_fatigue_lstm_skel res owns
  simp only [k0_part10_eq_skeleton]
  iintro ⟨⟨⟨%f2, %h2, H2⟩, ⟨%f3, %h3, H3⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩⟩, ⟨%f4, %h4, H4⟩, ⟨%f5, %h5, H5⟩⟩
  rw [← runs_zero W X 0 (S 0)] at h6 h14
  rw [← runs_zero W X 1 (S 1)] at h7 h15
  rw [← runs_zero W X 2 (S 2)] at h8 h16
  rw [← runs_zero W X 3 (S 3)] at h9 h17
  rw [← runs_zero W X 4 (S 4)] at h10 h18
  rw [← runs_zero W X 5 (S 5)] at h11 h19
  rw [← runs_zero W X 6 (S 6)] at h12 h20
  rw [← runs_zero W X 7 (S 7)] at h13 h21
  let L := loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X W S
  sl_exec (disch := first | sl_exact h0 | sl_exact h1)
  sl_step
  sl_unfold_words
  isplitl [H2 H3 H6 H7 H8 H9 H10 H11 H12 H13 H14 H15 H16 H17 H18 H19 H20 H21]
  · isplitl [H2]; · iapply (owns_of_read c arg2 (rfl)); iexact H2
    isplitl [H3]; · iapply (owns_of_read c arg3 (rfl)); iexact H3
    isplitl [H6]; · iapply (owns_of_read c arg6 (hL4)); iexact H6
    isplitl [H7]; · iapply (owns_of_read c arg7 (hL6)); iexact H7
    isplitl [H8]; · iapply (owns_of_read c arg8 (hL8)); iexact H8
    isplitl [H9]; · iapply (owns_of_read c arg9 (hL10)); iexact H9
    isplitl [H10]; · iapply (owns_of_read c arg10 (hL12)); iexact H10
    isplitl [H11]; · iapply (owns_of_read c arg11 (hL14)); iexact H11
    isplitl [H12]; · iapply (owns_of_read c arg12 (hL16)); iexact H12
    isplitl [H13]; · iapply (owns_of_read c arg13 (hL18)); iexact H13
    isplitl [H14]; · iapply (owns_of_read c arg14 (hL20)); iexact H14
    isplitl [H15]; · iapply (owns_of_read c arg15 (hL22)); iexact H15
    isplitl [H16]; · iapply (owns_of_read c arg16 (hL24)); iexact H16
    isplitl [H17]; · iapply (owns_of_read c arg17 (hL26)); iexact H17
    isplitl [H18]; · iapply (owns_of_read c arg18 (hL28)); iexact H18
    isplitl [H19]; · iapply (owns_of_read c arg19 (hL30)); iexact H19
    isplitl [H20]; · iapply (owns_of_read c arg20 (hL32)); iexact H20
    iapply (owns_of_read c arg21 (hL34)); iexact H21
  isplitl [H4]; · iapply (owns_of_read c arg4 h4); iexact H4
  iapply (owns_of_read c arg5 (read_out _ (read_head h4 hL4 _ _) (read_head h4 hL6 _ _) (read_head h4 hL8 _ _) (read_head h4 hL10 _ _) (read_head h4 hL12 _ _) (read_head h4 hL14 _ _) (read_head h4 hL16 _ _) (read_head h4 hL18 _ _) _ _ _ _ _ _ _ _)); iexact H5

end Points

end Cert.KernelIdeal.Lstm

end
-- ==== Proof.KernelIdeal.Launch.lean ====
/-
  The launch. What a point leaves in the scratch (`stAt`) and in the output's buffer (`outAt`) is stated point by point; the three
  triples of the body give the pipeline's obligation, and the launch gives the frame claim.
-/
module

public import proofs.«01_k».proof.Proof.KernelIdeal.Body
public import Idealize.ShloMosaic.Lib.Claim

@[expose] public section

set_option maxRecDepth 16384

noncomputable section

namespace Cert.KernelIdeal.Lstm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The start does not depend on what a chain held but in the rows that the first step's input replaces. -/
theorem feed_start (x : Vec F S1x5x256 .f32) (s s' : ChainState F) : feed x (start s).1 = feed x (start s').1 := by
  funext y
  have hy0 : (y 0).val < 40 := (y 0).isLt
  have hy1 : (y 1).val < 256 := (y 1).isLt
  unfold feed start VecWindow.put
  dsimp only
  by_cases h : ∀ a, (![0, 0] : Fin 2 → ℕ) a ≤ (y a).val ∧ (y a).val < (![0, 0] : Fin 2 → ℕ) a + S5x256.size a
  · rw [dif_pos h, dif_pos h]
  · rw [dif_neg h, dif_neg h]
    by_cases h8 : ∀ a, (![8, 0] : Fin 2 → ℕ) a ≤ (y a).val ∧ (y a).val < (![8, 0] : Fin 2 → ℕ) a + S32x256.size a
    · rw [dif_pos h8, dif_pos h8]
    · have hlt : ¬ 8 ≤ (y 0).val := fun h' => h8 fun a => match a with
        | ⟨0, _⟩ => ⟨h', show (y 0).val < 8 + 32 by omega⟩
        | ⟨1, _⟩ => ⟨Nat.zero_le _, show (y 1).val < 0 + 256 by omega⟩
      have hge : ¬ (y 0).val < 5 := fun h' => h fun a => match a with
        | ⟨0, _⟩ => ⟨Nat.zero_le _, show (y 0).val < 0 + 5 by omega⟩
        | ⟨1, _⟩ => ⟨Nat.zero_le _, show (y 1).val < 0 + 256 by omega⟩
      have h5 : ∀ a, (![5, 0] : Fin 2 → ℕ) a ≤ (y a).val ∧ (y a).val < (![5, 0] : Fin 2 → ℕ) a + S3x256.size a := fun a => match a with
        | ⟨0, _⟩ => ⟨show 5 ≤ (y 0).val by omega, show (y 0).val < 5 + 3 by omega⟩
        | ⟨1, _⟩ => ⟨Nat.zero_le _, show (y 1).val < 0 + 256 by omega⟩
      rw [dif_neg h8, dif_neg h8, dif_pos h5, dif_pos h5]

/-- After one step or more from the start, nothing of what a chain held before is left. -/
theorem runs_start (W : Vec F S128x40 .f32) (X : Vec F S64x5x2048 .f32) (q : Fin 8) (s s' : ChainState F) (n : ℕ) (hn : n < 64) :
    runs W X q (start s) (n + 1) = runs W X q (start s') (n + 1) := by
  induction n with
  | zero =>
    rw [show (0 + 1 : ℕ) = (⟨0, hn⟩ : Fin 64).val + 1 from rfl, runs_succ, runs_succ]
    show step W _ (runs W X q (start s) 0) = step W _ (runs W X q (start s') 0)
    rw [runs_zero, runs_zero]
    unfold step
    rw [feed_start _ s s']
    rfl
  | succ n ih =>
    rw [show (n + 1 + 1 : ℕ) = (⟨n + 1, hn⟩ : Fin 64).val + 1 from rfl, runs_succ, runs_succ]
    show step W _ (runs W X q (start s) (n + 1)) = step W _ (runs W X q (start s') (n + 1))
    rw [ih (by omega)]

/-! ## The points -/

/-- The points of the first time chunk are those whose number is a multiple of eight. -/
theorem isFirst_iff : ∀ t : Fin cfg0.N, isFirst (grid0.coords t) ↔ t.val % 8 = 0 :=
  (fun t => by
    have ht : t.val < 16 := Nat.lt_of_lt_of_eq t.isLt N_0
    have e1 : (grid0.coords t 1).val = t.val / 1 % 8 := Pipeline.Grid.coords_val t 1 (by decide) rfl
    simp only [isFirst, e1]
    word_cmp
   : ∀ t : Fin grid0.N, isFirst (grid0.coords t) ↔ t.val % 8 = 0)

/-- The points of the last time chunk are those whose number is seven more than a multiple of eight. -/
theorem isLast_iff : ∀ t : Fin cfg0.N, isLast (grid0.coords t) ↔ t.val % 8 = 7 :=
  (fun t => by
    have ht : t.val < 16 := Nat.lt_of_lt_of_eq t.isLt N_0
    have e1 : (grid0.coords t 1).val = t.val / 1 % 8 := Pipeline.Grid.coords_val t 1 (by decide) rfl
    simp only [isLast, k0_cond2, e1]
    word_cmp
   : ∀ t : Fin grid0.N, isLast (grid0.coords t) ↔ t.val % 8 = 7)

/-- At a point that is not of the last time chunk the output window is idle, -/
theorem idle_out : ∀ t : Fin cfg0.N, ¬ isLast (grid0.coords t) → cfg0.idle 3 (grid0.coords t) = true := by decide +kernel
/-- and its block is not written back; -/
theorem noFlush_out : ∀ t : Fin cfg0.N, ¬ isLast (grid0.coords t) → (cfg0.win 3).flush t = false := by decide +kernel
/-- at a point of the last time chunk it is live. -/
theorem live_out : ∀ t : Fin cfg0.N, isLast (grid0.coords t) → cfg0.idle 3 (grid0.coords t) = false := by decide +kernel

/-! ## The memrefs -/

-- each window's staging memref at a point, and that it is whole
abbrev ms0 (t : Fin cfg0.N) : Memref sig .tc .vmem S64x5x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x40 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x40 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x2048 .f32 := win0_3.stage (cfg0.slots t 3)
abbrev hs3 (t : Fin cfg0.N) : (ms3 t).IsWhole := hstage0_3 ((cfg0.slots t 3).cast nbuf0_3)
-- the scratch arrays
abbrev sc0 : Memref sig .tc .vmem S40x256 .f32 := Memref.whole cc0_scratch0
abbrev sc1 : Memref sig .tc .vmem S40x256 .f32 := Memref.whole cc0_scratch1
abbrev sc2 : Memref sig .tc .vmem S40x256 .f32 := Memref.whole cc0_scratch2
abbrev sc3 : Memref sig .tc .vmem S40x256 .f32 := Memref.whole cc0_scratch3
abbrev sc4 : Memref sig .tc .vmem S40x256 .f32 := Memref.whole cc0_scratch4
abbrev sc5 : Memref sig .tc .vmem S40x256 .f32 := Memref.whole cc0_scratch5
abbrev sc6 : Memref sig .tc .vmem S40x256 .f32 := Memref.whole cc0_scratch6
abbrev sc7 : Memref sig .tc .vmem S40x256 .f32 := Memref.whole cc0_scratch7
abbrev sc8 : Memref sig .tc .vmem S32x256 .f32 := Memref.whole cc0_scratch8
abbrev sc9 : Memref sig .tc .vmem S32x256 .f32 := Memref.whole cc0_scratch9
abbrev sc10 : Memref sig .tc .vmem S32x256 .f32 := Memref.whole cc0_scratch10
abbrev sc11 : Memref sig .tc .vmem S32x256 .f32 := Memref.whole cc0_scratch11
abbrev sc12 : Memref sig .tc .vmem S32x256 .f32 := Memref.whole cc0_scratch12
abbrev sc13 : Memref sig .tc .vmem S32x256 .f32 := Memref.whole cc0_scratch13
abbrev sc14 : Memref sig .tc .vmem S32x256 .f32 := Memref.whole cc0_scratch14
abbrev sc15 : Memref sig .tc .vmem S32x256 .f32 := Memref.whole cc0_scratch15

/-- The sixteen scratch arrays at the eight chains' states. -/
def scr (c : Dev nD) (S : Fin 8 → ChainState F) : sProp 𝕄 :=
  iprop(owns (c : Thread nD τ) sc0 fullShare (S 0).1 ∗ owns (c : Thread nD τ) sc1 fullShare (S 1).1 ∗ owns (c : Thread nD τ) sc2 fullShare (S 2).1 ∗ owns (c : Thread nD τ) sc3 fullShare (S 3).1
    ∗ owns (c : Thread nD τ) sc4 fullShare (S 4).1 ∗ owns (c : Thread nD τ) sc5 fullShare (S 5).1 ∗ owns (c : Thread nD τ) sc6 fullShare (S 6).1 ∗ owns (c : Thread nD τ) sc7 fullShare (S 7).1
    ∗ owns (c : Thread nD τ) sc8 fullShare (S 0).2 ∗ owns (c : Thread nD τ) sc9 fullShare (S 1).2 ∗ owns (c : Thread nD τ) sc10 fullShare (S 2).2 ∗ owns (c : Thread nD τ) sc11 fullShare (S 3).2
    ∗ owns (c : Thread nD τ) sc12 fullShare (S 4).2 ∗ owns (c : Thread nD τ) sc13 fullShare (S 5).2 ∗ owns (c : Thread nD τ) sc14 fullShare (S 6).2 ∗ owns (c : Thread nD τ) sc15 fullShare (S 7).2)

/-- What a trip needs, at a point's memrefs: the two inputs and the scratch. -/
theorem res_at (c : Dev nD) (t : Fin cfg0.N) (X : Vec F S64x5x2048 .f32) (W : Vec F S128x40 .f32) (S : Fin 8 → ChainState F) :
    res c (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) X W S
      = iprop(owns (c : Thread nD τ) (ms0 t) fullShare X ∗ owns (c : Thread nD τ) (ms1 t) fullShare W ∗ scr c S) := rfl

set_option maxHeartbeats 2000000 in
/-- What the launch hands the region: the scratch at some contents and the generator register at some state. -/
theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d)) ∗ (∃ r, prngReg c r)) := by
  unfold Pipeline.ΦA
  rw [scopedRest0_eq]
  simp only [sc0, sc1, sc2, sc3, sc4, sc5, sc6, sc7, sc8, sc9, sc10, sc11, sc12, sc13, sc14, sc15, owns_whole]
  try rfl

/-! ## What the points leave -/

/-- The chains' states after the first `n` points: a point of the first time chunk starts at the zero state, every point makes 64 steps. -/
def stAt (c : Dev nD) : ℕ → Fin 8 → ChainState F
  | 0 => fun _ => (fun _ => Scalar.ofBits .f32 0x00000000#32, fun _ => Scalar.ofBits .f32 0x00000000#32)
  | n + 1 => fun q => if h : n < cfg0.N then
      runs (iblk m c 1 ⟨n, h⟩) (iblk m c 0 ⟨n, h⟩) q (if n % 8 = 0 then start (stAt c n q) else stAt c n q) 64 else stAt c n q

/-- After a point of the first time chunk, from any scratch. -/
theorem stAt_first (c : Dev nD) (t : Fin cfg0.N) (h : t.val % 8 = 0) (S : Fin 8 → ChainState F) :
    (fun q => runs (iblk m c 1 t) (iblk m c 0 t) q (start (S q)) 64) = stAt m c (t.val + 1) := by
  funext q
  show _ = (if h : t.val < cfg0.N then _ else _)
  rw [dif_pos t.isLt, if_pos h]
  exact runs_start _ _ q _ _ 63 (by decide)

/-- After any other point. -/
theorem stAt_next (c : Dev nD) (t : Fin cfg0.N) (h : ¬ t.val % 8 = 0) :
    (fun q => runs (iblk m c 1 t) (iblk m c 0 t) q (stAt m c t.val q) 64) = stAt m c (t.val + 1) := by
  funext q
  show _ = (if h : t.val < cfg0.N then _ else _)
  rw [dif_pos t.isLt, if_neg h]

/-- The output block after a point of the last time chunk. -/
def outAt (c : Dev nD) (t : Fin cfg0.N) : Vec F S8x2048 .f32 := outBlock (iblk m c 2 t) (stAt m c (t.val + 1))

/-- The region invariant before position `n`: the scratch at anything before the first point, at what the points so far left afterwards. -/
def Phi (c : Dev nD) : ℕ → sProp 𝕄
  | 0 => Pipeline.ΦA spec0 c
  | n + 1 => iprop(scr c (stAt m c (n + 1)) ∗ (∃ r, prngReg c r))

/-- The chains' states given one by one. -/
def pack {F' : FTy → Type} (e0 : Vec F' S40x256 .f32) (e1 : Vec F' S40x256 .f32) (e2 : Vec F' S40x256 .f32) (e3 : Vec F' S40x256 .f32) (e4 : Vec F' S40x256 .f32) (e5 : Vec F' S40x256 .f32) (e6 : Vec F' S40x256 .f32) (e7 : Vec F' S40x256 .f32) (e8 : Vec F' S32x256 .f32) (e9 : Vec F' S32x256 .f32) (e10 : Vec F' S32x256 .f32) (e11 : Vec F' S32x256 .f32) (e12 : Vec F' S32x256 .f32) (e13 : Vec F' S32x256 .f32) (e14 : Vec F' S32x256 .f32) (e15 : Vec F' S32x256 .f32) : Fin 8 → ChainState F'
  | ⟨0, _⟩ => (e0, e8) | ⟨1, _⟩ => (e1, e9) | ⟨2, _⟩ => (e2, e10) | ⟨3, _⟩ => (e3, e11) | ⟨4, _⟩ => (e4, e12) | ⟨5, _⟩ => (e5, e13) | ⟨6, _⟩ => (e6, e14) | ⟨7, _⟩ => (e7, e15)

/-- Before any position: the scratch at some states, those of `stAt` unless the position is the first. -/
theorem Phi_entry (c : Dev nD) (n : ℕ) :
    Phi m c n ⊢ iprop(∃ S : Fin 8 → ChainState F, ⌜n ≠ 0 → S = stAt m c n⌝ ∗ scr c S ∗ (∃ r, prngReg c r)) := by
  cases n with
  | zero =>
    show Pipeline.ΦA spec0 c ⊢ _
    rw [PhiA_eq]
    iintro ⟨⟨⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩, ⟨%e9, HS9⟩, ⟨%e10, HS10⟩, ⟨%e11, HS11⟩, ⟨%e12, HS12⟩, ⟨%e13, HS13⟩, ⟨%e14, HS14⟩, ⟨%e15, HS15⟩⟩, Hg⟩
    iexists (pack e0 e1 e2 e3 e4 e5 e6 e7 e8 e9 e10 e11 e12 e13 e14 e15)
    isplitr
    · ipureintro; exact fun h => absurd rfl h
    isplitl [HS0 HS1 HS2 HS3 HS4 HS5 HS6 HS7 HS8 HS9 HS10 HS11 HS12 HS13 HS14 HS15]
    · unfold scr pack
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      iexact HS15
    iexact Hg
  | succ n =>
    show iprop(scr c (stAt m c (n + 1)) ∗ (∃ r, prngReg c r)) ⊢ _
    iintro ⟨HS, Hg⟩
    iexists _
    isplitr
    · ipureintro; exact fun _ => rfl
    isplitl [HS]; · iexact HS
    iexact Hg

/-! ## The pipeline's proof data -/

/-- The proof data: after a point each input's buffer is at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 8000000 in
/-- The body at any point, by the triple of the point's kind. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = iprop(scr c (stAt m c (t.val + 1)) ∗ (∃ r, prngReg c r)) from rfl]
  rw [show (dats m 0 c).Φ t.castSucc = Phi m c t.val from rfl]
  rw [show (dats m 0 c).leavesExact 0 t = owns (c : Thread nD τ) (ms0 t) fullShare (iblk m c 0 t) from by
    unfold Dat.leavesExact; rw [show cfg0.idle 0 (cfg0.grid.coords t) = false from rfl, after0]]
  rw [show (dats m 0 c).leavesExact 1 t = owns (c : Thread nD τ) (ms1 t) fullShare (iblk m c 1 t) from by
    unfold Dat.leavesExact; rw [show cfg0.idle 1 (cfg0.grid.coords t) = false from rfl, after1]]
  rw [show (dats m 0 c).leavesExact 2 t = owns (c : Thread nD τ) (ms2 t) fullShare (iblk m c 2 t) from by
    unfold Dat.leavesExact; rw [show cfg0.idle 2 (cfg0.grid.coords t) = false from rfl, after2]]
  iintro ⟨HΦ, Ho, ⟨%d0, H0⟩, ⟨%d1, H1⟩, ⟨%d2, H2⟩, ⟨%d3, H3⟩⟩
  ihave HΦ := (Phi_entry m c t.val) $$ HΦ
  icases HΦ with ⟨%S, %hS, HS, Hg⟩
  by_cases h0 : t.val % 8 = 0
  · have hl : ¬ isLast (grid0.coords t) := fun h => by have := (isLast_iff t).mp h; omega
    rw [Dat.leavesExact_idle (dats m 0 c) 3 t (idle_out t hl) (noFlush_out t hl)]
    iapply (wp_wand_r Idealize.ShloMosaic.frame (wpE (defs₀ (F := F)) Variants.none (c : Thread nD τ) none) Set.univ)
    isplitl [H0 H1 H2 H3 HS]
    · iapply (body_first c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (iblk m c 0 t) (iblk m c 1 t) S (iblk m c 2 t) _ ((isFirst_iff t).mpr h0) hl)
      rw [res_at]
      isplitl [H0 H1 HS]
      · isplitl [H0]; · iexact H0
        isplitl [H1]; · iexact H1
        iexact HS
      isplitl [H2]; · iexact H2
      iexact H3
    · rw [res_at]
      iintro %_ ⟨⟨K0, K1, KS⟩, K2, K3⟩
      isplitl [KS Hg]
      · rw [stAt_first m c t h0 S]
        isplitl [KS]; · iexact KS
        iexact Hg
      isplitl [Ho]; · iexact Ho
      isplitl [K0]; · iexact K0
      isplitl [K1]; · iexact K1
      isplitl [K2]; · iexact K2
      iexists d3; iexact K3
  have hf : ¬ isFirst (grid0.coords t) := fun h => h0 ((isFirst_iff t).mp h)
  obtain rfl := hS (fun h => h0 (by rw [h]))
  by_cases h7 : t.val % 8 = 7
  · have hl : isLast (grid0.coords t) := (isLast_iff t).mpr h7
    rw [show (dats m 0 c).leavesExact 3 t = owns (c : Thread nD τ) (ms3 t) fullShare (outBlock (iblk m c 2 t) (stAt m c (t.val + 1))) from by
      unfold Dat.leavesExact; rw [live_out t hl, after3]; rfl]
    iapply (wp_wand_r Idealize.ShloMosaic.frame (wpE (defs₀ (F := F)) Variants.none (c : Thread nD τ) none) Set.univ)
    isplitl [H0 H1 H2 H3 HS]
    · iapply (body_last c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (iblk m c 0 t) (iblk m c 1 t) (stAt m c t.val) (iblk m c 2 t) _ hf hl)
      rw [res_at]
      isplitl [H0 H1 HS]
      · isplitl [H0]; · iexact H0
        isplitl [H1]; · iexact H1
        iexact HS
      isplitl [H2]; · iexact H2
      iexact H3
    · rw [res_at, stAt_next m c t h0]
      iintro %_ ⟨⟨K0, K1, KS⟩, K2, K3⟩
      isplitl [KS Hg]
      · isplitl [KS]; · iexact KS
        iexact Hg
      isplitl [Ho]; · iexact Ho
      isplitl [K0]; · iexact K0
      isplitl [K1]; · iexact K1
      isplitl [K2]; · iexact K2
      iexact K3
  · have hl : ¬ isLast (grid0.coords t) := fun h => h7 ((isLast_iff t).mp h)
    rw [Dat.leavesExact_idle (dats m 0 c) 3 t (idle_out t hl) (noFlush_out t hl)]
    iapply (wp_wand_r Idealize.ShloMosaic.frame (wpE (defs₀ (F := F)) Variants.none (c : Thread nD τ) none) Set.univ)
    isplitl [H0 H1 H2 H3 HS]
    · iapply (body_middle c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) sc13 (Memref.isWhole_whole _) sc14 (Memref.isWhole_whole _) sc15 (Memref.isWhole_whole _) (iblk m c 0 t) (iblk m c 1 t) (stAt m c t.val) (iblk m c 2 t) _ hf hl)
      rw [res_at]
      isplitl [H0 H1 HS]
      · isplitl [H0]; · iexact H0
        isplitl [H1]; · iexact H1
        iexact HS
      isplitl [H2]; · iexact H2
      iexact H3
    · rw [res_at]
      iintro %_ ⟨⟨K0, K1, KS⟩, K2, K3⟩
      isplitl [KS Hg]
      · rw [stAt_next m c t h0]
        isplitl [KS]; · iexact KS
        iexact Hg
      isplitl [Ho]; · iexact Ho
      isplitl [K0]; · iexact K0
      isplitl [K1]; · iexact K1
      isplitl [K2]; · iexact K2
      iexists d3; iexact K3

/-- The body table's row at a point is the body at the point's memrefs. -/
theorem row (t : Fin cfg0.N) : defs₀ (F := F) .tc cfg0.body (cfg0.bodyArgs t (cfg0.slots t)) = bodyAt0 t := by
  unfold defs₀; rw [Defs.onTc_tc]

/-- The pipeline's obligation of the body. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives back what the launch handed over: the scratch's contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl,
    show (Fin.last cfg0.N).val = 16 from N_0, show Phi m c 16 = iprop(scr c (stAt m c 16) ∗ (∃ r, prngReg c r)) from rfl, PhiA_eq]
  unfold scr
  iintro ⟨⟨HS0, HS1, HS2, HS3, HS4, HS5, HS6, HS7, HS8, HS9, HS10, HS11, HS12, HS13, HS14, HS15⟩, Hg⟩
  isplitl [HS0 HS1 HS2 HS3 HS4 HS5 HS6 HS7 HS8 HS9 HS10 HS11 HS12 HS13 HS14 HS15]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    iexists _; iexact HS15
  iexact Hg

/-! ## The run and the frame -/

-- the launch theorem's implicit arguments are found by unifying its conclusion with this one, which takes unfolding plain definitions in a metavariable's type
set_option backward.isDefEq.respectTransparency.types false in
set_option maxHeartbeats 800000 in
/-- The run of the whole program: the arrays at what the proof data says, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame claim at any values: every run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Lstm

end
-- ==== Proof.Scatter.lean ====
/-
  The five scatters that pack the weights. Each puts one window into an array of zeros or of what was packed before, at indices that are
  constants, so an entry of the result is either the window's entry or the array's.
-/
module

public import proofs.«01_k».proof.Proof.Gen.KernelIdeal.Launch
public import Idealize.ShloMosaic.Lib.Routing.OpsSet
public import Idealize.ShloMosaic.Lib.Pointwise

@[expose] public section

set_option maxRecDepth 16384

noncomputable section

namespace Cert.Lstm

open Idealize.ShloMosaic Idealize.ShloMosaic.Routing
open Cert.KernelIdeal

variable {α : Type}

/-- An update lands at an entry of a matrix when start and window add up to it on both axes. -/
theorem lands_pair {R C w : ℕ} {si u : Shape} (d : ScatterDims (shape2 R C) si u) (k : u.Idx) (idx : IVec si w) (r : Fin R) (c : Fin C) :
    d.resultIdx? k idx = some (ValueIdx.ix2 r c)
      ↔ d.start k idx 0 + (d.window k 0 : Int) = (r.val : Int) ∧ d.start k idx 1 + (d.window k 1 : Int) = (c.val : Int) := by
  rw [resultIdx?_eq_some]
  refine ⟨fun h => ⟨h 0, h 1⟩, fun h a => ?_⟩
  match a with
  | ⟨0, _⟩ => exact h.1
  | ⟨1, _⟩ => exact h.2

/-- Where the input weights land: column by column from the index on. -/
theorem lands_wih (idx : IVec S1 32) (n : Int) (h : ∀ i, (idx i).toInt = n) (k : S128x5.Idx) (r : Fin 128) (c : Fin 40) :
    scatter_S128x40_S1_S128x5_01_n_1_0.resultIdx? k idx = some (ValueIdx.ix2 r c) ↔ (k 0).val = r.val ∧ n + (k 1).val = c.val := by
  rw [lands_pair]
  have s0 : scatter_S128x40_S1_S128x5_01_n_1_0.start k idx 0 = 0 := dif_neg (by decide)
  have s1 : scatter_S128x40_S1_S128x5_01_n_1_0.start k idx 1 = n := (dif_pos (by decide)).trans (h _)
  have w0 : scatter_S128x40_S1_S128x5_01_n_1_0.window k 0 = (k 0).val := dif_pos (by decide)
  have w1 : scatter_S128x40_S1_S128x5_01_n_1_0.window k 1 = (k 1).val := dif_pos (by decide)
  rw [s0, s1, w0, w1]
  omega

/-- Where the biases land: one column. -/
theorem lands_bias (idx : IVec S1 32) (n : Int) (h : ∀ i, (idx i).toInt = n) (k : S128.Idx) (r : Fin 128) (c : Fin 40) :
    scatter_S128x40_S1_S128_0_1_1_0.resultIdx? k idx = some (ValueIdx.ix2 r c) ↔ (k 0).val = r.val ∧ n = c.val := by
  rw [lands_pair]
  have s0 : scatter_S128x40_S1_S128_0_1_1_0.start k idx 0 = 0 := dif_neg (by decide)
  have s1 : scatter_S128x40_S1_S128_0_1_1_0.start k idx 1 = n := (dif_pos (by decide)).trans (h _)
  have w0 : scatter_S128x40_S1_S128_0_1_1_0.window k 0 = (k 0).val := dif_pos (by decide)
  have w1 : scatter_S128x40_S1_S128_0_1_1_0.window k 1 = 0 := dif_neg (by decide)
  rw [s0, s1, w0, w1]
  omega

/-- Where the recurrent weights land. -/
theorem lands_whh (idx : IVec S1 32) (n : Int) (h : ∀ i, (idx i).toInt = n) (k : S128x32.Idx) (r : Fin 128) (c : Fin 40) :
    scatter_S128x40_S1_S128x32_01_n_1_0.resultIdx? k idx = some (ValueIdx.ix2 r c) ↔ (k 0).val = r.val ∧ n + (k 1).val = c.val := by
  rw [lands_pair]
  have s0 : scatter_S128x40_S1_S128x32_01_n_1_0.start k idx 0 = 0 := dif_neg (by decide)
  have s1 : scatter_S128x40_S1_S128x32_01_n_1_0.start k idx 1 = n := (dif_pos (by decide)).trans (h _)
  have w0 : scatter_S128x40_S1_S128x32_01_n_1_0.window k 0 = (k 0).val := dif_pos (by decide)
  have w1 : scatter_S128x40_S1_S128x32_01_n_1_0.window k 1 = (k 1).val := dif_pos (by decide)
  rw [s0, s1, w0, w1]
  omega

/-- Where the output layer's weights land. -/
theorem lands_wfc (idx : IVec S2 32) (n : Int) (h0 : (idx (ValueIdx.ix1 0)).toInt = 0) (h1 : (idx (ValueIdx.ix1 1)).toInt = n) (k : S3x32.Idx) (r : Fin 8) (c : Fin 40) :
    scatter_S8x40_S2_S3x32_01_n_01_0.resultIdx? k idx = some (ValueIdx.ix2 r c) ↔ (k 0).val = r.val ∧ n + (k 1).val = c.val := by
  rw [lands_pair]
  have s0 : scatter_S8x40_S2_S3x32_01_n_01_0.start k idx 0 = 0 :=
    (dif_pos (by decide)).trans ((congrArg (fun i => (idx i).toInt) (by funext a; fin_cases a; rfl)).trans h0)
  have s1 : scatter_S8x40_S2_S3x32_01_n_01_0.start k idx 1 = n :=
    (dif_pos (by decide)).trans ((congrArg (fun i => (idx i).toInt) (by funext a; fin_cases a; rfl)).trans h1)
  have w0 : scatter_S8x40_S2_S3x32_01_n_01_0.window k 0 = (k 0).val := dif_pos (by decide)
  have w1 : scatter_S8x40_S2_S3x32_01_n_01_0.window k 1 = (k 1).val := dif_pos (by decide)
  rw [s0, s1, w0, w1]
  omega

/-- Where the output layer's bias lands. -/
theorem lands_bfc (idx : IVec S2 32) (n : Int) (h0 : (idx (ValueIdx.ix1 0)).toInt = 0) (h1 : (idx (ValueIdx.ix1 1)).toInt = n) (k : S3.Idx) (r : Fin 8) (c : Fin 40) :
    scatter_S8x40_S2_S3_0_1_01_0.resultIdx? k idx = some (ValueIdx.ix2 r c) ↔ (k 0).val = r.val ∧ n = c.val := by
  rw [lands_pair]
  have s0 : scatter_S8x40_S2_S3_0_1_01_0.start k idx 0 = 0 :=
    (dif_pos (by decide)).trans ((congrArg (fun i => (idx i).toInt) (by funext a; fin_cases a; rfl)).trans h0)
  have s1 : scatter_S8x40_S2_S3_0_1_01_0.start k idx 1 = n :=
    (dif_pos (by decide)).trans ((congrArg (fun i => (idx i).toInt) (by funext a; fin_cases a; rfl)).trans h1)
  have w0 : scatter_S8x40_S2_S3_0_1_01_0.window k 0 = (k 0).val := dif_pos (by decide)
  have w1 : scatter_S8x40_S2_S3_0_1_01_0.window k 1 = 0 := dif_neg (by decide)
  rw [s0, s1, w0, w1]
  omega

/-- A window of a matrix put at a row-aligned offset, read inside it and outside it. The landing rule is a hypothesis. -/
theorem put_window {R C a b w : ℕ} {si : Shape} (d : ScatterDims (shape2 R C) si (shape2 a b)) (idx : IVec si w) (n : ℕ)
    (hl : ∀ (k : (shape2 a b).Idx) (r : Fin R) (c : Fin C), d.resultIdx? k idx = some (ValueIdx.ix2 r c) ↔ (k 0).val = r.val ∧ (n : Int) + (k 1).val = c.val)
    (x0 : (shape2 R C).Idx → α) (upd : (shape2 a b).Idx → α) (r : Fin R) (c : Fin C) :
    Host.scatter d (fun _ v => v) x0 idx upd (ValueIdx.ix2 r c)
      = if h : r.val < a ∧ n ≤ c.val ∧ c.val < n + b then upd (ValueIdx.ix2 ⟨r.val, h.1⟩ ⟨c.val - n, by omega⟩) else x0 (ValueIdx.ix2 r c) := by
  by_cases h : r.val < a ∧ n ≤ c.val ∧ c.val < n + b
  · rw [dif_pos h]
    refine scatter_set_hit d x0 idx upd _ _ (fun k hk => ?_) (ValueIdx.ix2 ⟨r.val, h.1⟩ ⟨c.val - n, by omega⟩) ((hl _ _ _).2 ⟨rfl, ?_⟩)
    · have e := (hl _ _ _).1 hk
      refine congrArg upd ?_
      funext z
      match z with
      | ⟨0, _⟩ => exact Fin.ext e.1
      | ⟨1, _⟩ => exact Fin.ext (by have e2 := e.2; show (k 1).val = c.val - n; omega)
    · show (n : Int) + ((c.val - n : ℕ) : Int) = c.val
      omega
  · rw [dif_neg h]
    refine scatter_set_miss d x0 idx upd _ (fun k hk => h ?_)
    have e := (hl _ _ _).1 hk
    have k0 : (k 0).val < a := (k 0).isLt
    have k1 : (k 1).val < b := (k 1).isLt
    have e1 := e.1
    have e2 := e.2
    refine ⟨?_, ?_, ?_⟩ <;> omega

/-- A column put into a matrix, read in it and outside it. -/
theorem put_column {R C a w : ℕ} {si : Shape} (d : ScatterDims (shape2 R C) si (shape1 a)) (idx : IVec si w) (n : ℕ)
    (hl : ∀ (k : (shape1 a).Idx) (r : Fin R) (c : Fin C), d.resultIdx? k idx = some (ValueIdx.ix2 r c) ↔ (k 0).val = r.val ∧ (n : Int) = c.val)
    (x0 : (shape2 R C).Idx → α) (upd : (shape1 a).Idx → α) (r : Fin R) (c : Fin C) :
    Host.scatter d (fun _ v => v) x0 idx upd (ValueIdx.ix2 r c)
      = if h : r.val < a ∧ c.val = n then upd (ValueIdx.ix1 ⟨r.val, h.1⟩) else x0 (ValueIdx.ix2 r c) := by
  by_cases h : r.val < a ∧ c.val = n
  · rw [dif_pos h]
    refine scatter_set_hit d x0 idx upd _ _ (fun k hk => ?_) (ValueIdx.ix1 ⟨r.val, h.1⟩) ((hl _ _ _).2 ⟨rfl, ?_⟩)
    · have e := (hl _ _ _).1 hk
      refine congrArg upd ?_
      funext z
      match z with
      | ⟨0, _⟩ => exact Fin.ext e.1
    · have := h.2; omega
  · rw [dif_neg h]
    refine scatter_set_miss d x0 idx upd _ (fun k hk => h ?_)
    have e := (hl _ _ _).1 hk
    have k0 : (k 0).val < a := (k 0).isLt
    have e1 := e.1
    have e2 := e.2
    refine ⟨?_, ?_⟩ <;> omega

end Cert.Lstm

end
-- ==== Proof.Cell.lean ====
/-
  One cell of the network over extended reals, written twice: with the logistic function as the reference has it, and with one `tanh` and
  halved arguments as the kernel has it. The two agree as long as the cell's state is a real number, which it always is: `tanh` and
  the logistic function take real values, at the infinities too.
-/
module

public import Idealize.ShloMosaic.PureOps.Ideal.Laws
public import Idealize.ShloMosaic.Lib.Pointwise

@[expose] public section

noncomputable section

namespace Cert.Lstm

open Idealize.ShloMosaic

/-- One half, as an extended real. -/
abbrev half : EReal := ((1 / 2 : ℝ) : EReal)

/-- The pattern `0x3F000000` is one half. -/
theorem ofBits_half : Ideal.ofBits .f32 0x3F000000#32 = half := by
  simp [Ideal.ofBits, Ideal.ieee, -EReal.coe_mul]; norm_num

/-- The hyperbolic tangent takes real values. -/
theorem tanh_real (z : EReal) : ∃ t : ℝ, Ideal.tanh z = (t : EReal) := by
  induction z with
  | bot => exact ⟨-1, by simp⟩
  | top => exact ⟨1, by simp⟩
  | coe r => exact ⟨Real.tanh r, rfl⟩

/-- The logistic function is one half of one more than the hyperbolic tangent of half the argument, over the reals. -/
theorem logistic_tanh (r : ℝ) : (1 + Real.exp (-r))⁻¹ = (Real.tanh (1 / 2 * r) + 1) / 2 := by
  have h : Real.exp (-r) = Real.exp (-(1 / 2 * r)) * Real.exp (-(1 / 2 * r)) := by
    rw [← Real.exp_add]; congr 1; ring
  have h1 : Real.exp (1 / 2 * r) * Real.exp (-(1 / 2 * r)) = 1 := by
    rw [← Real.exp_add, add_neg_cancel, Real.exp_zero]
  rw [Real.tanh_eq_sinh_div_cosh, Real.sinh_eq, Real.cosh_eq, h]
  generalize hb : Real.exp (-(1 / 2 * r)) = b at h1 ⊢
  generalize ha : Real.exp (1 / 2 * r) = a at h1 ⊢
  have pa : 0 < a := ha ▸ Real.exp_pos _
  have pb : 0 < b := hb ▸ Real.exp_pos _
  have h2 : (1 : ℝ) + b * b = b * (a + b) := by rw [← h1]; ring
  rw [h2]
  have pab : a + b ≠ 0 := by positivity
  field_simp
  nlinarith [h1]

/-- The same over the extended reals: at every argument there is a real `t` which is the hyperbolic tangent of half of it. -/
theorem logistic_real (z : EReal) : ∃ t : ℝ, Ideal.tanh (half * z) = (t : EReal) ∧ Ideal.logistic z = (((t + 1) / 2 : ℝ) : EReal) := by
  induction z with
  | bot => exact ⟨-1, by rw [EReal.coe_mul_bot_of_pos (by norm_num)]; simp, by simp⟩
  | top => exact ⟨1, by rw [EReal.coe_mul_top_of_pos (by norm_num)]; simp, by rw [Ideal.logistic_top]; norm_num⟩
  | coe r => exact ⟨Real.tanh (1 / 2 * r), by rw [← EReal.coe_mul]; rfl, by rw [Ideal.logistic_coe, logistic_tanh]⟩

/-- The cell's new state, the kernel's way and the reference's, from a real state. -/
theorem cell_eq (zi zf zg : EReal) (c : ℝ) :
    half * ((Ideal.tanh (half * zf) * (c : EReal) + (c : EReal)) + (Ideal.tanh (half * zi) * Ideal.tanh zg + Ideal.tanh zg))
      = Ideal.logistic zf * (c : EReal) + Ideal.logistic zi * Ideal.tanh zg := by
  obtain ⟨tf, hf, lf⟩ := logistic_real zf
  obtain ⟨ti, hi, li⟩ := logistic_real zi
  obtain ⟨tg, hg⟩ := tanh_real zg
  rw [hf, hi, hg, lf, li]
  norm_cast
  ring

/-- The new state is real again. -/
theorem cell_real (zi zf zg : EReal) (c : ℝ) :
    ∃ c' : ℝ, Ideal.logistic zf * (c : EReal) + Ideal.logistic zi * Ideal.tanh zg = (c' : EReal) := by
  obtain ⟨tf, -, lf⟩ := logistic_real zf
  obtain ⟨ti, -, li⟩ := logistic_real zi
  obtain ⟨tg, hg⟩ := tanh_real zg
  rw [lf, li, hg]
  exact ⟨(tf + 1) / 2 * c + (ti + 1) / 2 * tg, by norm_cast⟩

/-- The cell's output, the kernel's way and the reference's. -/
theorem hidden_eq (zo c : EReal) :
    half * (Ideal.tanh (half * zo) * Ideal.tanh c + Ideal.tanh c) = Ideal.logistic zo * Ideal.tanh c := by
  obtain ⟨t, ht, lo⟩ := logistic_real zo
  obtain ⟨tc, hc⟩ := tanh_real c
  rw [ht, hc, lo]
  norm_cast
  ring

/-! ## The network -/

/-- The recurrent layer's parameters. -/
structure Params where
  wih : Fin 128 → Fin 5 → EReal
  whh : Fin 128 → Fin 32 → EReal
  bih : Fin 128 → EReal
  bhh : Fin 128 → EReal

/-- The hidden vector and the cells' states of one sequence. -/
abbrev State := (Fin 32 → EReal) × (Fin 32 → EReal)

/-- A gate's argument: the input's part, the first bias, the hidden vector's part, the second bias. -/
def gate (p : Params) (x : Fin 5 → EReal) (h : Fin 32 → EReal) (r : Fin 128) : EReal :=
  (∑ i, x i * p.wih r i) + p.bih r + (∑ u, h u * p.whh r u) + p.bhh r

/-- The cells' new states. -/
def cellNext (p : Params) (x : Fin 5 → EReal) (s : State) (u : Fin 32) : EReal :=
  Ideal.logistic (gate p x s.1 ⟨32 + u.val, by omega⟩) * s.2 u
    + Ideal.logistic (gate p x s.1 ⟨u.val, by omega⟩) * Ideal.tanh (gate p x s.1 ⟨64 + u.val, by omega⟩)

/-- One step of the network. -/
def next (p : Params) (x : Fin 5 → EReal) (s : State) : State :=
  (fun u => Ideal.logistic (gate p x s.1 ⟨96 + u.val, by omega⟩) * Ideal.tanh (cellNext p x s u), cellNext p x s)

/-- The states after the first steps on a sequence of inputs, from zero. -/
def states (p : Params) (x : ℕ → Fin 5 → EReal) : ℕ → State
  | 0 => (fun _ => 0, fun _ => 0)
  | k + 1 => next p (x k) (states p x k)

/-- The cells' states are real numbers throughout. -/
theorem states_real (p : Params) (x : ℕ → Fin 5 → EReal) (u : Fin 32) : ∀ k, ∃ c : ℝ, (states p x k).2 u = (c : EReal)
  | 0 => ⟨0, rfl⟩
  | k + 1 => by
    obtain ⟨c, hc⟩ := states_real p x u k
    show ∃ c' : ℝ, cellNext p (x k) (states p x k) u = (c' : EReal)
    unfold cellNext
    rw [hc]
    exact cell_real _ _ _ c

/-! ## The packed operands -/

/-- The factor of a gate's row: the three logistic gates' rows are halved. -/
def scale (r : Fin 128) : EReal := if r.val < 64 then half else if r.val < 96 then 1 else half

/-- The packed weight: input weights, both biases in column five, two columns of zeros, recurrent weights, each row by its factor. -/
def packed (p : Params) (r : Fin 128) (k : Fin 40) : EReal :=
  (if h : k.val < 5 then p.wih r ⟨k.val, h⟩ else if k.val = 5 then p.bih r + p.bhh r else if h : k.val < 8 then 0
    else p.whh r ⟨k.val - 8, by omega⟩) * scale r

/-- The packed operand: the input, a one, two zeros, the hidden vector. -/
def operand (x : Fin 5 → EReal) (h : Fin 32 → EReal) (k : Fin 40) : EReal :=
  if hk : k.val < 5 then x ⟨k.val, hk⟩ else if k.val = 5 then 1 else if hk : k.val < 8 then 0 else h ⟨k.val - 8, by omega⟩

/-- A sum over forty columns, by the parts of the packing. -/
theorem sum_forty (f : Fin 40 → EReal) :
    ∑ k, f k = (∑ i : Fin 5, f ⟨i.val, by omega⟩) + (f 5 + f 6 + f 7) + ∑ u : Fin 32, f ⟨8 + u.val, by omega⟩ := by
  rw [show (∑ k, f k) = ∑ k : Fin (8 + 32), f k from rfl, Fin.sum_univ_add,
    show (∑ i : Fin 8, f (Fin.castAdd 32 i)) = ∑ i : Fin (5 + 3), f (Fin.castAdd 32 i) from rfl, Fin.sum_univ_add, Fin.sum_univ_three]
  rfl

/-- A row's factor is not negative. -/
theorem scale_nonneg (r : Fin 128) : 0 ≤ scale r := by
  unfold scale
  have h : (0 : EReal) ≤ half := EReal.coe_nonneg.2 (by norm_num)
  split_ifs <;> first | exact h | exact zero_le_one

/-- A row's factor is not infinite. -/
theorem scale_ne_top (r : Fin 128) : scale r ≠ ⊤ := by
  unfold scale
  split_ifs <;> first | exact EReal.coe_ne_top _ | exact EReal.coe_ne_top 1

/-- A factor that is neither negative nor infinite goes into a sum. -/
theorem mul_sum_of_nonneg {ι : Type} (s : Finset ι) (a : EReal) (h0 : 0 ≤ a) (h1 : a ≠ ⊤) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 h1, ih]

/-- The product of the packed weight with the packed operand is the gate's argument by the row's factor. -/
theorem sum_packed (p : Params) (x : Fin 5 → EReal) (h : Fin 32 → EReal) (r : Fin 128) :
    ∑ k, packed p r k * operand x h k = scale r * gate p x h r := by
  have h0 := scale_nonneg r
  have h1 := scale_ne_top r
  have e5 : packed p r 5 * operand x h 5 = scale r * p.bih r + scale r * p.bhh r := by
    show ((p.bih r + p.bhh r) * scale r) * 1 = _
    rw [mul_one, mul_comm, EReal.left_distrib_of_nonneg_of_ne_top h0 h1]
  have e6 : packed p r 6 * operand x h 6 = 0 := by show (0 * scale r) * 0 = 0; rw [mul_zero]
  have e7 : packed p r 7 * operand x h 7 = 0 := by show (0 * scale r) * 0 = 0; rw [mul_zero]
  have ei : ∀ i : Fin 5, packed p r ⟨i.val, by omega⟩ * operand x h ⟨i.val, by omega⟩ = scale r * (x i * p.wih r i) := fun i => by
    unfold packed operand
    rw [dif_pos i.isLt, dif_pos i.isLt]
    ac_rfl
  have eu : ∀ u : Fin 32, packed p r ⟨8 + u.val, by omega⟩ * operand x h ⟨8 + u.val, by omega⟩ = scale r * (h u * p.whh r u) := fun u => by
    unfold packed operand
    have a : ¬ 8 + u.val < 5 := by omega
    have b : ¬ 8 + u.val = 5 := by omega
    have c : ¬ 8 + u.val < 8 := by omega
    rw [dif_neg a, if_neg b, dif_neg c, dif_neg a, if_neg b, dif_neg c]
    simp only [Nat.add_sub_cancel_left]
    ac_rfl
  rw [sum_forty, e5, e6, e7]
  simp only [ei, eu]
  rw [← mul_sum_of_nonneg _ _ h0 h1, ← mul_sum_of_nonneg _ _ h0 h1]
  unfold gate
  rw [EReal.left_distrib_of_nonneg_of_ne_top h0 h1, EReal.left_distrib_of_nonneg_of_ne_top h0 h1, EReal.left_distrib_of_nonneg_of_ne_top h0 h1]
  rw [add_zero, add_zero]
  abel

/-! ## The output layer -/

/-- The output layer's packed weight, at one of the three rows that the problem has: the bias in column five, the weights behind the eighth. -/
def packedOut (w : Fin 3 → Fin 32 → EReal) (b : Fin 3 → EReal) (o : Fin 3) (k : Fin 40) : EReal :=
  if k.val = 5 then b o else if h : k.val < 8 then 0 else w o ⟨k.val - 8, by omega⟩

/-- Its product with the packed operand is the output layer: the zeros of the packed weight take the input out. -/
theorem sum_packedOut (w : Fin 3 → Fin 32 → EReal) (b : Fin 3 → EReal) (o : Fin 3) (x : Fin 5 → EReal) (h : Fin 32 → EReal) :
    ∑ k, packedOut w b o k * operand x h k = (∑ u, h u * w o u) + b o := by
  have e5 : packedOut w b o 5 * operand x h 5 = b o := by show b o * 1 = _; rw [mul_one]
  have e6 : packedOut w b o 6 * operand x h 6 = 0 := by show (0 : EReal) * 0 = 0; rw [mul_zero]
  have e7 : packedOut w b o 7 * operand x h 7 = 0 := by show (0 : EReal) * 0 = 0; rw [mul_zero]
  have ei : ∀ i : Fin 5, packedOut w b o ⟨i.val, by omega⟩ * operand x h ⟨i.val, by omega⟩ = 0 := fun i => by
    unfold packedOut
    have a : ¬ i.val = 5 := by omega
    have c : i.val < 8 := by omega
    rw [if_neg a, dif_pos c, zero_mul]
  have eu : ∀ u : Fin 32, packedOut w b o ⟨8 + u.val, by omega⟩ * operand x h ⟨8 + u.val, by omega⟩ = h u * w o u := fun u => by
    unfold packedOut operand
    have a : ¬ 8 + u.val < 5 := by omega
    have b : ¬ 8 + u.val = 5 := by omega
    have c : ¬ 8 + u.val < 8 := by omega
    rw [if_neg b, dif_neg c, dif_neg a, if_neg b, dif_neg c]
    simp only [Nat.add_sub_cancel_left]
    exact mul_comm _ _
  rw [sum_forty, e5, e6, e7]
  simp only [ei, eu]
  rw [Finset.sum_const_zero, zero_add, add_zero, add_zero, add_comm]

end Cert.Lstm

end
-- ==== Proof.Arrays.lean ====
/-
  The arrays that the host hands to the region, entry by entry: the input with its axes turned, the packed weight of the recurrent layer,
  and the packed weight of the output layer.
-/
module

public import proofs.«01_k».proof.Proof.Scatter
public import proofs.«01_k».proof.Proof.Cell
public import proofs.«01_k».proof.Proof.Gen.KernelIdeal.Frame
public import Idealize.ShloMosaic.Lib.Tactic
public import Idealize.ShloMosaic.Lib.StableHlo.Run
public import Idealize.ShloMosaic.Lib.StableHlo.RunClose
public import Idealize.ShloMosaic.Lib.IdealHost

@[expose] public section

set_option maxRecDepth 16384

noncomputable section

namespace Cert.Lstm

open Idealize.ShloMosaic Idealize.ShloMosaic.Tactic Idealize.ShloMosaic.TcCoe
open Cert.KernelIdeal Cert.KernelIdeal.Gen

variable (m : (ℓ : Loc nD τ sig) → Buf (Elt Ideal) ℓ) (c : Dev nD)

/-- The recurrent layer's parameters, read off the arguments. -/
def params : Params where
  wih r i := m ((c : Thread nD τ).loc main_arg1) (ValueIdx.ix2 r i)
  whh r u := m ((c : Thread nD τ).loc main_arg2) (ValueIdx.ix2 r u)
  bih r := m ((c : Thread nD τ).loc main_arg3) (ValueIdx.ix1 r)
  bhh r := m ((c : Thread nD τ).loc main_arg4) (ValueIdx.ix1 r)

/-- The output layer's weights, read off the arguments. -/
def wfc (o : Fin 3) (u : Fin 32) : EReal := m ((c : Thread nD τ).loc main_arg5) (ValueIdx.ix2 o u)
/-- The output layer's bias, read off the arguments. -/
def bfc (o : Fin 3) : EReal := m ((c : Thread nD τ).loc main_arg6) (ValueIdx.ix1 o)

/-- The input of sequence `b` at time `t`, zero beyond the last. -/
def input (b : Fin 4096) (t : ℕ) (i : Fin 5) : EReal :=
  if h : t < 512 then m ((c : Thread nD τ).loc main_arg0) (ValueIdx.ix3 b ⟨t, h⟩ i) else 0

/-- The scatters that pack the recurrent layer's weight, before the rows' factors. -/
def packUnscaled (w1 : Vec Ideal S128x5 .f32) (w2 : Vec Ideal S128x32 .f32) (b1 b2 : Vec Ideal S128 .f32) : Vec Ideal S128x40 .f32 :=
  Host.scatter scatter_S128x40_S1_S128x32_01_n_1_0 (fun _ b => b)
    (Host.scatter scatter_S128x40_S1_S128_0_1_1_0 (fun _ b => b)
      (Host.scatter scatter_S128x40_S1_S128x5_01_n_1_0 (fun _ b => b)
        (broadcastInDim S128x40 ![] bcast_S_S128x40 (constant (F := Ideal) S_ .f32 0x00000000#32)) (broadcastInDim S1 ![] bcast_S_S1 (constantI S_ 32 0#32)) w1)
      (broadcastInDim S1 ![] bcast_S_S1 (constantI S_ 32 5#32)) (addf (F := Ideal) (φ := .f32) b1 b2))
    (broadcastInDim S1 ![] bcast_S_S1 (constantI S_ 32 8#32)) w2

/-- The rows' factors as the host lays them out. -/
def packScale : Vec Ideal S128x1 .f32 :=
  concatenate S128x1 0 [⟨S64x1, broadcastInDim S64x1 ![] bcast_S_S64x1 (constant (F := Ideal) S_ .f32 0x3F000000#32)⟩,
    ⟨S32x1, broadcastInDim S32x1 ![] bcast_S_S32x1 (constant (F := Ideal) S_ .f32 0x3F800000#32)⟩,
    ⟨S32x1, broadcastInDim S32x1 ![] bcast_S_S32x1 (constant (F := Ideal) S_ .f32 0x3F000000#32)⟩] concatenates_S64x1_S32x1_S32x1_S128x1_d0

/-- The two index words of an output layer's scatter. -/
def rowWords (n : BitVec 32) : Vec Ideal S2 .i32 :=
  concatenate S2 0 [⟨S1, broadcastInDim S1 ![] bcast_S_S1 (constantI S_ 32 0#32)⟩, ⟨S1, broadcastInDim S1 ![] bcast_S_S1 (constantI S_ 32 n)⟩] concatenates_S1_S1_S2_d0

/-- The scatters that pack the output layer's weight. -/
def packOut (w : Vec Ideal S3x32 .f32) (b : Vec Ideal S3 .f32) : Vec Ideal S8x40 .f32 :=
  Host.scatter scatter_S8x40_S2_S3_0_1_01_0 (fun _ b => b)
    (Host.scatter scatter_S8x40_S2_S3x32_01_n_01_0 (fun _ b => b)
      (broadcastInDim S8x40 ![] bcast_S_S8x40 (constant (F := Ideal) S_ .f32 0x00000000#32)) (rowWords 8#32) w)
    (rowWords 5#32) b

/-- The host operations before the region, from any contents, leave the input with its axes turned. -/
theorem host_input (W : Valuation τ sig (Elt Ideal)) : StableHlo.after hostOps0 W (main_v0 : DevRef τ sig)
    = transpose S512x5x4096 [1, 2, 0] (W (main_arg0 : DevRef τ sig)) transposes_S4096x512x5_S512x5x4096_1_2_0 := by
  unfold hostOps0
  after_results_entrywise []

/-- They leave the packed weight of the recurrent layer. -/
theorem host_weight (W : Valuation τ sig (Elt Ideal)) : StableHlo.after hostOps0 W (main_v14 : DevRef τ sig)
    = mulf (F := Ideal) (φ := .f32) (packUnscaled (W (main_arg1 : DevRef τ sig)) (W (main_arg2 : DevRef τ sig)) (W (main_arg3 : DevRef τ sig)) (W (main_arg4 : DevRef τ sig)))
      (broadcastInDim S128x40 ![0, 1] bcast_S128x1_S128x40_0_1 packScale) := by
  unfold hostOps0
  after_results_entrywise (rounds := 1) []

/-- They leave the packed weight of the output layer. -/
theorem host_out (W : Valuation τ sig (Elt Ideal)) : StableHlo.after hostOps0 W (main_v23 : DevRef τ sig)
    = packOut (W (main_arg5 : DevRef τ sig)) (W (main_arg6 : DevRef τ sig)) := by
  unfold hostOps0
  after_results_entrywise []

/-- The region finds the input with its axes turned. -/
theorem V_input : V m c main_v0 = transpose S512x5x4096 [1, 2, 0] (m ((c : Thread nD τ).loc main_arg0)) transposes_S4096x512x5_S512x5x4096_1_2_0 :=
  host_input (fun b => m (c, b))

/-- The region finds the packed weight of the recurrent layer. -/
theorem V_weight : V m c main_v14 = mulf (F := Ideal) (φ := .f32) (packUnscaled (m ((c : Thread nD τ).loc main_arg1)) (m ((c : Thread nD τ).loc main_arg2))
      (m ((c : Thread nD τ).loc main_arg3)) (m ((c : Thread nD τ).loc main_arg4)))
    (broadcastInDim S128x40 ![0, 1] bcast_S128x1_S128x40_0_1 packScale) :=
  host_weight (fun b => m (c, b))

/-- The region finds the packed weight of the output layer. -/
theorem V_out : V m c main_v23 = packOut (m ((c : Thread nD τ).loc main_arg5)) (m ((c : Thread nD τ).loc main_arg6)) :=
  host_out (fun b => m (c, b))

/-- A row's factor, as laid out. -/
theorem packScale_at (r : Fin 128) : packScale (ValueIdx.ix2 r 0) = scale r := by
  unfold packScale scale
  rw [concatenate_cons_apply, concatenateAt_cons]
  by_cases h1 : r.val < 64
  · rw [dif_pos (by exact h1), if_pos h1]
    exact ofBits_half
  · rw [dif_neg (by exact h1), if_neg h1, concatenateAt_cons]
    by_cases h2 : r.val < 96
    · rw [dif_pos (by show r.val - 64 < 32; omega), if_pos h2]
      exact Ideal.ofBits_one_f32
    · rw [dif_neg (by show ¬ r.val - 64 < 32; omega), if_neg h2, concatenateAt_singleton]
      exact ofBits_half

/-- The packed weight before the factors, entry by entry. -/
theorem packUnscaled_at (w1 : Vec Ideal S128x5 .f32) (w2 : Vec Ideal S128x32 .f32) (b1 b2 : Vec Ideal S128 .f32) (r : Fin 128) (k : Fin 40) :
    packUnscaled w1 w2 b1 b2 (ValueIdx.ix2 r k)
      = if h : k.val < 5 then w1 (ValueIdx.ix2 r ⟨k.val, h⟩) else if k.val = 5 then b1 (ValueIdx.ix1 r) + b2 (ValueIdx.ix1 r) else if h : k.val < 8 then 0
        else w2 (ValueIdx.ix2 r ⟨k.val - 8, by omega⟩) := by
  unfold packUnscaled
  rw [put_window _ _ 8 (lands_whh _ 8 (fun _ => rfl)), put_column _ _ 5 (lands_bias _ 5 (fun _ => rfl)), put_window _ _ 0 (lands_wih _ 0 (fun _ => rfl))]
  have hr := r.isLt
  by_cases h8 : k.val < 8
  · rw [dif_neg (by omega)]
    by_cases h5 : k.val = 5
    · rw [dif_pos ⟨hr, h5⟩, dif_neg (by omega), if_pos h5]
      rfl
    · rw [dif_neg (by omega)]
      by_cases hl : k.val < 5
      · rw [dif_pos ⟨hr, by omega, by omega⟩, dif_pos hl]
        rfl
      · rw [dif_neg (by omega), dif_neg hl, if_neg h5, dif_pos h8]
        exact Ideal.ofBits_zero_f32
  · rw [dif_pos ⟨hr, by omega, by omega⟩, dif_neg (by omega), if_neg (by omega), dif_neg h8]

/-- The recurrent layer's packed weight, entry by entry. -/
theorem weight_at (r : Fin 128) (k : Fin 40) : V m c main_v14 (ValueIdx.ix2 r k) = packed (params m c) r k := by
  rw [V_weight]
  have e : broadcastInDim S128x40 ![0, 1] bcast_S128x1_S128x40_0_1 packScale (ValueIdx.ix2 r k) = packScale (ValueIdx.ix2 r 0) := by
    pointwise
    rfl
  show packUnscaled _ _ _ _ (ValueIdx.ix2 r k) * broadcastInDim S128x40 ![0, 1] bcast_S128x1_S128x40_0_1 packScale (ValueIdx.ix2 r k) = _
  rw [packUnscaled_at, e, packScale_at]
  rfl

/-- The output layer's packed weight, entry by entry, at the three rows of the problem. -/
theorem out_at (o : Fin 3) (k : Fin 40) : V m c main_v23 (ValueIdx.ix2 ⟨o.val, by omega⟩ k) = packedOut (wfc m c) (bfc m c) o k := by
  rw [V_out]
  unfold packOut packedOut
  rw [put_column _ _ 5 (lands_bfc _ 5 rfl rfl), put_window _ _ 8 (lands_wfc _ 8 rfl rfl)]
  have ho := o.isLt
  by_cases h5 : k.val = 5
  · rw [dif_pos ⟨ho, h5⟩, if_pos h5]
    rfl
  · rw [dif_neg (fun h => h5 h.2), if_neg h5]
    by_cases h8 : k.val < 8
    · rw [dif_neg (by dsimp only; omega), dif_pos h8]
      exact Ideal.ofBits_zero_f32
    · rw [dif_pos ⟨ho, by omega, by omega⟩, dif_neg h8]
      rfl

/-- The turned input, entry by entry. -/
theorem input_at (b : Fin 4096) (t : Fin 512) (i : Fin 5) : V m c main_v0 (ValueIdx.ix3 t i b) = input m c b t.val i := by
  rw [V_input]
  unfold input
  rw [dif_pos t.isLt]
  pointwise
  rfl

end Cert.Lstm

end
-- ==== Proof.Chain.lean ====
/-
  One chain of the kernel at one lane follows the network on that lane's sequence: its operand holds a one, two zeros and the hidden
  vector below the input rows, and its cell buffer holds the cells' states. A step keeps this, and so do the 64 steps of a block.
-/
module

public import proofs.«01_k».proof.Proof.KernelIdeal.Body
public import proofs.«01_k».proof.Proof.Cell
public import Idealize.ShloMosaic.Lib.Pointwise
public import Idealize.ShloMosaic.Lib.IdealHost

@[expose] public section

set_option maxRecDepth 16384

noncomputable section

namespace Cert.Lstm

open Idealize.ShloMosaic
open Cert.KernelIdeal Cert.KernelIdeal.Gen Cert.KernelIdeal.Lstm

/-- Whole rows put into a matrix, read in them and outside them. -/
theorem put_rows {α : Type} {R C : ℕ} (a n : ℕ) (x : (⟨2, ![R, C]⟩ : Shape).Idx → α) (w : (⟨2, ![n, C]⟩ : Shape).Idx → α) (k : Fin R) (l : Fin C) :
    VecWindow.put (s := ⟨2, ![R, C]⟩) x ![a, 0] (⟨2, ![n, C]⟩ : Shape).size w (ValueIdx.ix2 k l)
      = if h : a ≤ k.val ∧ k.val < a + n then w (ValueIdx.ix2 ⟨k.val - a, by omega⟩ l) else x (ValueIdx.ix2 k l) := by
  unfold VecWindow.put
  by_cases h : a ≤ k.val ∧ k.val < a + n
  · have hl := l.isLt
    have hall : ∀ z : Fin 2, (![a, 0] : Fin 2 → ℕ) z ≤ ((ValueIdx.ix2 k l : (⟨2, ![R, C]⟩ : Shape).Idx) z).val
        ∧ ((ValueIdx.ix2 k l : (⟨2, ![R, C]⟩ : Shape).Idx) z).val < (![a, 0] : Fin 2 → ℕ) z + (⟨2, ![n, C]⟩ : Shape).size z := fun z => by
      match z with
      | ⟨0, _⟩ => exact h
      | ⟨1, _⟩ => exact ⟨Nat.zero_le _, by show l.val < 0 + C; omega⟩
    rw [dif_pos hall, dif_pos h]
    refine congrArg w ?_
    funext z
    match z with
    | ⟨0, _⟩ => rfl
    | ⟨1, _⟩ => rfl
  · rw [dif_neg (fun hall => h (hall 0)), dif_neg h]

/-- The chain's operand and cell buffer hold the state `st` at lane `l`. -/
structure Follows (s : ChainState Ideal) (l : Fin 256) (st : State) : Prop where
  rows : ∀ k : Fin 40, 5 ≤ k.val → s.1 (ValueIdx.ix2 k l) = operand (fun _ => 0) st.1 k
  cell : ∀ u : Fin 32, s.2 (ValueIdx.ix2 u l) = st.2 u

/-- Below the input rows the operand does not read the input. -/
theorem operand_below (x y : Fin 5 → EReal) (h : Fin 32 → EReal) (k : Fin 40) (hk : 5 ≤ k.val) : operand x h k = operand y h k := by
  have hk' : ¬ k.val < 5 := by omega
  simp only [operand, dif_neg hk']

/-- The input rows as stored are the input's block with its unit axis dropped. -/
theorem pay35_at (x : Vec Ideal S1x5x256 .f32) (i : Fin 5) (l : Fin 256) : k0_pay35 x (ValueIdx.ix2 i l) = x (ValueIdx.ix3 0 i l) := by
  unfold k0_pay35
  pointwise
  rfl

/-- With the input rows put in, the operand is the whole packed operand. -/
theorem feed_at {s : ChainState Ideal} {l : Fin 256} {st : State} (hs : Follows s l st) (x : Vec Ideal S1x5x256 .f32) (xt : Fin 5 → EReal)
    (hx : ∀ i, x (ValueIdx.ix3 0 i l) = xt i) (k : Fin 40) : feed x s.1 (ValueIdx.ix2 k l) = operand xt st.1 k := by
  refine (put_rows 0 5 s.1 (k0_pay35 x) k l).trans ?_
  by_cases h : k.val < 5
  · rw [dif_pos ⟨Nat.zero_le _, by omega⟩, pay35_at, hx]
    unfold operand
    rw [dif_pos h]
    rfl
  · rw [dif_neg (by omega), hs.rows k (by omega)]
    exact operand_below _ _ _ _ (by omega)

variable {p : Params} {W : Vec Ideal S128x40 .f32} (hW : ∀ r k, W (ValueIdx.ix2 r k) = packed p r k)
  {I : Vec Ideal S40x256 .f32} {l : Fin 256} {xt : Fin 5 → EReal} {st : State} (hI : ∀ k, I (ValueIdx.ix2 k l) = operand xt st.1 k)
  {C : Vec Ideal S32x256 .f32} (hC : ∀ u, C (ValueIdx.ix2 u l) = st.2 u) (hreal : ∀ u, ∃ c : ℝ, st.2 u = (c : EReal))

include hW hI in
/-- The product is the gates' arguments by the rows' factors. -/
theorem pay36_at (r : Fin 128) : k0_pay36 W I (ValueIdx.ix2 r l) = scale r * gate p xt st.1 r := by
  rw [← sum_packed]
  have e : k0_pay36 W I (ValueIdx.ix2 r l) = ∑ k : Fin 40, W (ValueIdx.ix2 r k) * I (ValueIdx.ix2 k l) := by
    unfold k0_pay36
    pointwise
    rfl
  rw [e]
  exact Finset.sum_congr rfl fun k _ => by rw [hW, hI]

include hW hI hC hreal in
/-- The cell's new state. -/
theorem pay37_at (u : Fin 32) : k0_pay37 W I C (ValueIdx.ix2 u l) = cellNext p xt st u := by
  obtain ⟨c, hc⟩ := hreal u
  have e : k0_pay37 W I C (ValueIdx.ix2 u l) = Ideal.ofBits .f32 0x3F000000#32
      * ((Ideal.tanh (k0_pay36 W I (ValueIdx.ix2 ⟨32 + u.val, by omega⟩ l)) * C (ValueIdx.ix2 u l) + C (ValueIdx.ix2 u l))
        + (Ideal.tanh (k0_pay36 W I (ValueIdx.ix2 ⟨u.val, by omega⟩ l)) * Ideal.tanh (k0_pay36 W I (ValueIdx.ix2 ⟨64 + u.val, by omega⟩ l))
          + Ideal.tanh (k0_pay36 W I (ValueIdx.ix2 ⟨64 + u.val, by omega⟩ l)))) := by
    unfold k0_pay37
    pointwise
    rfl
  have si : scale ⟨u.val, by omega⟩ = half := if_pos (by show u.val < 64; omega)
  have sf : scale ⟨32 + u.val, by omega⟩ = half := if_pos (by show 32 + u.val < 64; omega)
  have sg : scale ⟨64 + u.val, by omega⟩ = 1 := (if_neg (by show ¬ 64 + u.val < 64; omega)).trans (if_pos (by show 64 + u.val < 96; omega))
  rw [e, pay36_at hW hI, pay36_at hW hI, pay36_at hW hI, hC, hc, si, sf, sg, one_mul, ofBits_half, cell_eq]
  unfold cellNext
  rw [hc]

include hW hI hC hreal in
/-- The cell's output. -/
theorem pay39_at (u : Fin 32) : k0_pay39 W I C (ValueIdx.ix2 u l) = (next p xt st).1 u := by
  have e : k0_pay39 W I C (ValueIdx.ix2 u l) = Ideal.ofBits .f32 0x3F000000#32
      * (Ideal.tanh (k0_pay36 W I (ValueIdx.ix2 ⟨96 + u.val, by omega⟩ l)) * Ideal.tanh (k0_pay37 W I C (ValueIdx.ix2 u l))
        + Ideal.tanh (k0_pay37 W I C (ValueIdx.ix2 u l))) := by
    unfold k0_pay39
    pointwise
    rfl
  have so : scale ⟨96 + u.val, by omega⟩ = half := (if_neg (by show ¬ 96 + u.val < 64; omega)).trans (if_neg (by show ¬ 96 + u.val < 96; omega))
  rw [e, pay36_at hW hI, pay37_at hW hI hC hreal, so, ofBits_half, hidden_eq]
  rfl

include hW hreal in
/-- A step of the chain is a step of the network. -/
theorem step_follows {s : ChainState Ideal} (hs : Follows s l st) (x : Vec Ideal S1x5x256 .f32) (hx : ∀ i, x (ValueIdx.ix3 0 i l) = xt i) :
    Follows (step W x s) l (next p xt st) where
  rows k hk := by
    refine (put_rows 8 32 (feed x s.1) (k0_pay39 W (feed x s.1) s.2) k l).trans ?_
    by_cases h : 8 ≤ k.val
    · rw [dif_pos ⟨h, by omega⟩, pay39_at hW (feed_at hs x xt hx) hs.cell hreal]
      unfold operand
      rw [dif_neg (by omega), if_neg (by omega), dif_neg (by omega)]
    · rw [dif_neg (by omega), feed_at hs x xt hx]
      have h8 : k.val < 8 := by omega
      have h5 : ¬ k.val < 5 := by omega
      simp only [operand, dif_neg h5, dif_pos h8]
  cell u := by
    have e : k0_pay38 W (feed x s.1) s.2 (ValueIdx.ix2 u l) = k0_pay37 W (feed x s.1) s.2 (ValueIdx.ix2 u l) := by
      unfold k0_pay38
      pointwise
    exact e.trans (pay37_at hW (feed_at hs x xt hx) hs.cell hreal u)

/-- The three rows below the input: a one and two zeros. -/
theorem pay4_at (i : Fin 3) (l : Fin 256) : k0_pay4 (F := Ideal) (ValueIdx.ix2 i l) = if i.val = 0 then (1 : EReal) else 0 := by
  unfold k0_pay4 k0_pay1
  pointwise
  match i with
  | ⟨0, _⟩ => rfl
  | ⟨1, _⟩ => rfl
  | ⟨2, _⟩ => rfl

/-- At the start of a batch tile the chain holds zero states, whatever it held before. -/
theorem start_follows (s : ChainState Ideal) : Follows (start s) l (fun _ => 0, fun _ => 0) where
  rows k hk := by
    refine (put_rows 8 32 (VecWindow.put s.1 ![5, 0] S3x256.size (k0_pay4 (F := Ideal))) (k0_pay5 (F := Ideal)) k l).trans ?_
    unfold operand
    by_cases h : 8 ≤ k.val
    · rw [dif_pos ⟨h, by omega⟩, dif_neg (by omega), if_neg (by omega), dif_neg (by omega)]
      exact Ideal.ofBits_zero_f32
    · rw [dif_neg (by omega), dif_neg (by omega), dif_pos (show k.val < 8 by omega)]
      refine (put_rows 5 3 s.1 (k0_pay4 (F := Ideal)) k l).trans ?_
      rw [dif_pos ⟨hk, by omega⟩, pay4_at]
      by_cases h5 : k.val = 5
      · rw [if_pos (by show k.val - 5 = 0; omega), if_pos h5]
      · rw [if_neg (by show ¬ k.val - 5 = 0; omega), if_neg h5]
  cell u := Ideal.ofBits_zero_f32

include hW in
/-- The steps of a block: a chain that follows the network up to time `t0` follows it through the block's steps, when the block holds
    the sequence's inputs from `t0` on in the chain's lanes. -/
theorem runs_follows (x : ℕ → Fin 5 → EReal) (t0 : ℕ) (X : Vec Ideal S64x5x2048 .f32) (q : Fin 8) (s : ChainState Ideal)
    (hs : Follows s l (states p x t0))
    (hX : ∀ (k : Fin 64) (i : Fin 5), X (ValueIdx.ix3 k i ⟨256 * q.val + l.val, by omega⟩) = x (t0 + k.val) i) :
    ∀ n, n ≤ 64 → Follows (runs W X q s n) l (states p x (t0 + n))
  | 0, _ => by rw [runs_zero]; exact hs
  | n + 1, h => by
    have ih := runs_follows x t0 X q s hs hX n (by omega)
    rw [runs_succ W X q s ⟨n, by omega⟩]
    refine step_follows hW (fun u => states_real p x u (t0 + n)) ih _ (fun i => ?_)
    refine Eq.trans ?_ (hX ⟨n, by omega⟩ i)
    unfold xAt VecWindow.window
    refine congrArg X ?_
    funext z
    match z with
    | ⟨0, _⟩ => exact Fin.ext (by show n + 1 * 0 = n; omega)
    | ⟨1, _⟩ => exact Fin.ext (by show 0 + 1 * i.val = i.val; omega)
    | ⟨2, _⟩ => exact Fin.ext (by show 256 * q.val + 1 * l.val = 256 * q.val + l.val; omega)

/-- The output layer on a chain's operand. -/
theorem pay14_at {w : Fin 3 → Fin 32 → EReal} {b : Fin 3 → EReal} {Wf : Vec Ideal S8x40 .f32}
    (hWf : ∀ (o : Fin 3) k, Wf (ValueIdx.ix2 ⟨o.val, by omega⟩ k) = packedOut w b o k) (o : Fin 3) (xt : Fin 5 → EReal) (h : Fin 32 → EReal)
    (I : Vec Ideal S40x256 .f32) (hI : ∀ k : Fin 40, 5 ≤ k.val → I (ValueIdx.ix2 k l) = operand xt h k) :
    k0_pay14 Wf I (ValueIdx.ix2 ⟨o.val, by omega⟩ l) = (∑ u, h u * w o u) + b o := by
  rw [← sum_packedOut w b o xt h]
  have e : k0_pay14 Wf I (ValueIdx.ix2 ⟨o.val, by omega⟩ l) = ∑ k : Fin 40, Wf (ValueIdx.ix2 ⟨o.val, by omega⟩ k) * I (ValueIdx.ix2 k l) := by
    unfold k0_pay14
    pointwise
    rfl
  rw [e]
  refine Finset.sum_congr rfl fun k _ => ?_
  rw [hWf]
  by_cases hk : 5 ≤ k.val
  · rw [hI k hk]
  · have z : packedOut w b o k = 0 := by
      unfold packedOut
      rw [if_neg (by omega), dif_pos (by omega)]
    rw [z, zero_mul, zero_mul]

end Cert.Lstm

end
-- ==== Proof.Output.lean ====
/-
  What the kernel leaves in its result: at sequence `b` and output `o` the output layer on the hidden vector after all 512 steps.
-/
module

public import proofs.«01_k».proof.Proof.KernelIdeal.Launch
public import proofs.«01_k».proof.Proof.Arrays
public import proofs.«01_k».proof.Proof.Chain
public import Idealize.ShloMosaic.Lib.Pipeline.Value

@[expose] public section

set_option maxRecDepth 16384

noncomputable section

namespace Cert.Lstm

open Idealize.ShloMosaic Idealize.ShloMosaic.Tactic Idealize.ShloMosaic.TcCoe
open Idealize.ShloMosaic.Pipeline (Dat)
open Idealize.SL Idealize.SL.Sem
open Cert.KernelIdeal Cert.KernelIdeal.Gen Cert.KernelIdeal.Lstm

variable (m : (ℓ : Loc nD τ sig) → Buf (Elt Ideal) ℓ) (ρ : Dev nD → PrngReg) (c : Dev nD)

/-- The output layer's value at sequence `b`, output `o`. -/
def answer (b : Fin 4096) (o : Fin 3) : EReal := (∑ u, (states (params m c) (input m c b) 512).1 u * wfc m c o u) + bfc m c o

/-! ## The windows' blocks -/

/-- The input's block index at a point: time chunk, all five rows, batch tile. -/
theorem index_input : ∀ t : Fin grid0.N, win0_0.index t 0 = t.val % 8 ∧ win0_0.index t 1 = 0 ∧ win0_0.index t 2 = t.val / 8 := by decide +kernel
/-- The recurrent layer's weight has one block. -/
theorem index_weight : ∀ t : Fin grid0.N, win0_1.index t 0 = 0 ∧ win0_1.index t 1 = 0 := by decide +kernel
/-- The output layer's weight has one block. -/
theorem index_wfc : ∀ t : Fin grid0.N, win0_2.index t 0 = 0 ∧ win0_2.index t 1 = 0 := by decide +kernel
/-- The result's block index at a point: the batch tile. -/
theorem index_result : ∀ t : Fin grid0.N, win0_3.index t 0 = 0 ∧ win0_3.index t 1 = t.val / 8 := by decide +kernel

/-- The grid has sixteen points. -/
theorem point_lt (t : Fin cfg0.N) : t.val < 16 := lt_of_lt_of_eq t.isLt N_0

/-- The input's block at a point: 64 time steps of 2048 sequences. -/
theorem iblk_input (t : Fin cfg0.N) (k : Fin 64) (i : Fin 5) (y : Fin 2048) :
    (iblk m c 0 t : Vec Ideal S64x5x2048 .f32) (ValueIdx.ix3 k i y)
      = input m c ⟨2048 * (t.val / 8) + y.val, by have := point_lt t; omega⟩ (64 * (t.val % 8) + k.val) i := by
  have h8 := Nat.mod_lt t.val (by decide : 8 > 0)
  have hi := index_input t
  refine Eq.trans ?_ (input_at m c _ ⟨64 * (t.val % 8) + k.val, by omega⟩ i)
  unfold iblk
  rw [View.read_apply]
  show V m c main_v0 _ = V m c main_v0 _
  congr 1
  funext a
  apply Fin.ext
  match a with
  | ⟨0, _⟩ => show win0_0.index t 0 * 64 + 1 * k.val = 64 * (t.val % 8) + k.val; rw [hi.1]; omega
  | ⟨1, _⟩ => show win0_0.index t 1 * 5 + 1 * i.val = i.val; rw [hi.2.1]; omega
  | ⟨2, _⟩ => show win0_0.index t 2 * 2048 + 1 * y.val = 2048 * (t.val / 8) + y.val; rw [hi.2.2]; omega

/-- The recurrent layer's weight, whole at every point. -/
theorem iblk_weight (t : Fin cfg0.N) (r : Fin 128) (k : Fin 40) :
    (iblk m c 1 t : Vec Ideal S128x40 .f32) (ValueIdx.ix2 r k) = packed (params m c) r k := by
  have hi := index_weight t
  refine Eq.trans ?_ (weight_at m c r k)
  unfold iblk
  rw [View.read_apply]
  show V m c main_v14 _ = V m c main_v14 _
  congr 1
  funext a
  apply Fin.ext
  match a with
  | ⟨0, _⟩ => show win0_1.index t 0 * 128 + 1 * r.val = r.val; rw [hi.1]; omega
  | ⟨1, _⟩ => show win0_1.index t 1 * 40 + 1 * k.val = k.val; rw [hi.2]; omega

/-- The output layer's weight, whole at every point. -/
theorem iblk_wfc (t : Fin cfg0.N) (o : Fin 3) (k : Fin 40) :
    (iblk m c 2 t : Vec Ideal S8x40 .f32) (ValueIdx.ix2 ⟨o.val, by omega⟩ k) = packedOut (wfc m c) (bfc m c) o k := by
  have hi := index_wfc t
  refine Eq.trans ?_ (out_at m c o k)
  unfold iblk
  rw [View.read_apply]
  show V m c main_v23 _ = V m c main_v23 _
  congr 1
  funext a
  apply Fin.ext
  match a with
  | ⟨0, _⟩ => show win0_2.index t 0 * 8 + 1 * o.val = o.val; rw [hi.1]; omega
  | ⟨1, _⟩ => show win0_2.index t 1 * 40 + 1 * k.val = k.val; rw [hi.2]; omega

/-! ## The points -/

/-- After a point every chain follows the network, at every lane, on the sequence of the point's batch tile, up to the end of the point's
    time chunk. -/
theorem stAt_follows (q : Fin 8) (l : Fin 256) : ∀ (n : ℕ) (h : n < 16),
    Follows (stAt m c (n + 1) q) l
      (states (params m c) (input m c ⟨2048 * (n / 8) + (256 * q.val + l.val), by omega⟩) (64 * (n % 8) + 64)) := fun n h => by
  have hN : n < cfg0.N := lt_of_lt_of_eq h N_0.symm
  have hX : ∀ (k : Fin 64) (i : Fin 5), (iblk m c 0 ⟨n, hN⟩ : Vec Ideal S64x5x2048 .f32) (ValueIdx.ix3 k i ⟨256 * q.val + l.val, by omega⟩)
      = input m c ⟨2048 * (n / 8) + (256 * q.val + l.val), by omega⟩ (64 * (n % 8) + k.val) i := fun k i => iblk_input m c ⟨n, hN⟩ k i _
  by_cases h8 : n % 8 = 0
  · rw [← congrFun (stAt_first m c ⟨n, hN⟩ h8 (stAt m c n)) q]
    refine runs_follows (iblk_weight m c ⟨n, hN⟩) _ (64 * (n % 8)) _ q _ ?_ hX 64 (le_refl _)
    rw [h8]
    exact start_follows _
  · rw [← congrFun (stAt_next m c ⟨n, hN⟩ h8) q]
    refine runs_follows (iblk_weight m c ⟨n, hN⟩) _ (64 * (n % 8)) _ q _ ?_ hX 64 (le_refl _)
    obtain ⟨n', rfl⟩ : ∃ n', n = n' + 1 := ⟨n - 1, by omega⟩
    have ih := stAt_follows q l n' (by omega)
    have e1 : n' / 8 = (n' + 1) / 8 := by omega
    have e2 : 64 * (n' % 8) + 64 = 64 * ((n' + 1) % 8) := by omega
    rw [e2] at ih
    simp only [e1] at ih
    exact ih

/-- The output block at the last point of a batch tile. -/
theorem outAt_at (t : Fin cfg0.N) (h7 : t.val % 8 = 7) (o : Fin 3) (y : Fin 2048) :
    outAt m c t (ValueIdx.ix2 ⟨o.val, by omega⟩ y) = answer m c ⟨2048 * (t.val / 8) + y.val, by have := point_lt t; omega⟩ o := by
  have f := stAt_follows m c ⟨y.val / 256, by omega⟩ ⟨y.val % 256, Nat.mod_lt _ (by decide)⟩ t.val (point_lt t)
  have e : 256 * (y.val / 256) + y.val % 256 = y.val := by omega
  have e' : 64 * (t.val % 8) + 64 = 512 := by omega
  rw [e'] at f
  simp only [e] at f
  exact pay14_at (iblk_wfc m c t) o _ _ _ f.rows

/-! ## The result array -/

/-- The array that the region writes: each block as its batch tile's last point left it. -/
def outArr : Buf (Elt Ideal) ((c : Thread nD τ).loc main_v24) := fun i =>
  outAt m c ⟨8 * ((i 1).val / 2048) + 7, by
      have h : (i 1).val < 4096 := (i 1).isLt
      have hN : cfg0.N = 16 := N_0
      omega⟩
    (ValueIdx.ix2 (n0 := 8) (n1 := 2048) (i 0) ⟨(i 1).val % 2048, Nat.mod_lt _ (by decide)⟩)

/-- The array read inside the block of a batch tile. -/
theorem outArr_eq (t : Fin cfg0.N) (h7 : t.val % 8 = 7) (y : S8x2048.Idx) (i : S8x4096.Idx) (h0 : (i 0).val = (y 0).val)
    (h1 : (i 1).val = 2048 * (t.val / 8) + (y 1).val) : outAt m c t y = outArr m c i := by
  have y1 : (y 1).val < 2048 := (y 1).isLt
  have ht : ∀ h, (⟨8 * ((i 1).val / 2048) + 7, h⟩ : Fin cfg0.N) = t := fun h => Fin.ext (by dsimp only; omega)
  have hy : ∀ h, (ValueIdx.ix2 (n0 := 8) (n1 := 2048) (i 0) ⟨(i 1).val % 2048, h⟩ : S8x2048.Idx) = y := fun h => by
    funext a
    match a with
    | ⟨0, _⟩ => exact Fin.ext h0
    | ⟨1, _⟩ => exact Fin.ext (by show (i 1).val % 2048 = (y 1).val; omega)
  unfold outArr
  rw [ht, hy]

/-- A write-back writes its block of it. -/
theorem flushed_eq (t : Fin cfg0.N) (hf : (cfg0.win 3).flush t = true) :
    (dats m 0 c).flushed 3 t = ((cfg0.win 3).blk t).view.read (Elt Ideal) (outArr m c) := by
  have h7 := (flush0_3 t).mp hf
  have hi := index_result t
  show (cfg0.win 3).cut (grid0.coords t) ((dats m 0 c).after 3 t) = _
  rw [after3]
  funext y
  rw [View.read_apply]
  have y0 : (y 0).val < 8 := (y 0).isLt
  have y1 : (y 1).val < 2048 := (y 1).isLt
  have e0 : ((((cfg0.win 3).blk t).view.emb y) 0).val = (y 0).val := by
    show win0_3.index t 0 * 8 + 1 * (y 0).val = _
    rw [hi.1]; omega
  have e1 : ((((cfg0.win 3).blk t).view.emb y) 1).val = 2048 * (t.val / 8) + (y 1).val := by
    show win0_3.index t 1 * 2048 + 1 * (y 1).val = _
    rw [hi.2]; omega
  exact outArr_eq m c t h7 y _ e0 e1

/-- Every entry is written by the last point of its batch tile. -/
theorem arr_result : (dats m 0 c).arrAt 3 cfg0.N = outArr m c :=
  (dats m 0 c).arrAt_eq_of_cover 3 (outArr m c) (flushed_eq m c) fun i => by
    have h0 : (i 0).val < 8 := (i 0).isLt
    have h1 : (i 1).val < 4096 := (i 1).isLt
    have hN : cfg0.N = 16 := N_0
    have ht : 8 * ((i 1).val / 2048) + 7 < cfg0.N := by omega
    have hi := index_result ⟨8 * ((i 1).val / 2048) + 7, ht⟩
    refine ⟨⟨8 * ((i 1).val / 2048) + 7, ht⟩, (flush0_3 _).mpr (by dsimp only; omega), ?_⟩
    show i ∈ ((View.whole main_v24).slice (win0_3.rect ⟨8 * ((i 1).val / 2048) + 7, ht⟩)).set
    rw [View.set_slice_whole, Rect.mem_set_unit]
    intro a
    match a with
    | ⟨0, _⟩ =>
      show win0_3.index ⟨8 * ((i 1).val / 2048) + 7, ht⟩ 0 * 8 ≤ (i 0).val ∧ (i 0).val < win0_3.index ⟨8 * ((i 1).val / 2048) + 7, ht⟩ 0 * 8 + 8
      rw [hi.1]; omega
    | ⟨1, _⟩ =>
      show win0_3.index ⟨8 * ((i 1).val / 2048) + 7, ht⟩ 1 * 2048 ≤ (i 1).val ∧ (i 1).val < win0_3.index ⟨8 * ((i 1).val / 2048) + 7, ht⟩ 1 * 2048 + 2048
      rw [hi.2]; dsimp only; omega

/-- The program's result: the network's answer at every sequence and output. -/
theorem tail_result : Pipeline.afterTail₀ cfgs (dats m) 0 (V0 m) [hostOps1] c main_v26
    = (fun i => answer m c (i 0) (i 1) : Buf (Elt Ideal) ((c : Thread nD τ).loc main_v26)) := by
  have hA : ∀ W : Valuation τ sig (Elt Ideal), StableHlo.after hostOps1 W (main_v26 : DevRef τ sig)
      = transpose S4096x3 [1, 0] (extractStridedSlice S3x4096 ![0, 0] (W (main_v24 : DevRef τ sig)) slices_S8x4096_S3x4096_0_0) transposes_S3x4096_S4096x3_1_0 := fun W => by
    unfold hostOps1
    after_results_entrywise []
  unfold Pipeline.afterTail₀
  refine (hA _).trans ?_
  have hW := (Pipeline.withArrays_arr spec0 (fun a b => (by decide : ∀ a b, Pipeline.arrRef spec0 a = Pipeline.arrRef spec0 b → a = b) a b) c (V0 m c)
    (fun w => (dats m 0 c).arrAt w cfg0.N) 3).trans (arr_result m c)
  refine (congrArg (fun z => transpose S4096x3 [1, 0] (extractStridedSlice S3x4096 ![0, 0] z slices_S8x4096_S3x4096_0_0) transposes_S3x4096_S4096x3_1_0) hW).trans ?_
  funext i
  obtain ⟨b, o, rfl⟩ : ∃ (b : Fin 4096) (o : Fin 3), i = ValueIdx.ix2 b o := ⟨i 0, i 1, ValueIdx.eq_ix2 i⟩
  have e : transpose S4096x3 [1, 0] (extractStridedSlice S3x4096 ![0, 0] (outArr m c) slices_S8x4096_S3x4096_0_0) transposes_S3x4096_S4096x3_1_0
      (ValueIdx.ix2 b o) = outArr m c (ValueIdx.ix2 (n0 := 8) (n1 := 4096) ⟨o.val, by omega⟩ b) := by
    pointwise
    rfl
  have hN : cfg0.N = 16 := N_0
  have hb : ∀ h, (⟨2048 * ((8 * (b.val / 2048) + 7) / 8) + b.val % 2048, h⟩ : Fin 4096) = b := fun h => Fin.ext (by dsimp only; omega)
  have a := outAt_at m c ⟨8 * (b.val / 2048) + 7, by omega⟩ (by dsimp only; omega) o ⟨b.val % 2048, Nat.mod_lt _ (by decide)⟩
  rw [hb] at a
  exact e.trans a

/-- The run of the idealised kernel: its result is the network's answer, and the arguments are as they were. -/
theorem run_kernel : θ_run defs (onTc (τ := τ) (main (F := Ideal))) ⟨m, fun _ => 0, ρ⟩ fun r => ∀ c : Dev nD,
    r.2.mem ((c : Thread nD τ).loc main_v26) = (fun i => answer m c (i 0) (i 1) : Buf (Elt Ideal) ((c : Thread nD τ).loc main_v26)) :=
  (θ_run defs _ _).mono (fun _ h c => ((h c).2 main_v26 (Pipeline.mem_restRefs_of main_v26 (by decide) (by decide))).trans (tail_result m c))
    (run_main m ρ)

end Cert.Lstm

end
-- ==== Proof.Reference.lean ====
/-
  What the reference leaves in its result: the same network, step by step through its loop.
-/
module

public import proofs.«01_k».proof.Proof.Gen.ReferenceIdeal.Run
public import proofs.«01_k».proof.Proof.Cell
public import Idealize.ShloMosaic.Lib.Pointwise
public import Idealize.ShloMosaic.Lib.IdealHost
public import Idealize.ShloMosaic.Lib.StableHlo.RunClose

@[expose] public section

set_option maxRecDepth 16384

noncomputable section

namespace Cert.Lstm.Ref

open Idealize.ShloMosaic Idealize.ShloMosaic.TcCoe Idealize.ShloMosaic.StableHlo
open Idealize.SL Idealize.SL.Sem
open Cert.ReferenceIdeal Cert.ReferenceIdeal.Gen Cert.ReferenceIdeal.Value

variable (m : (ℓ : Loc nD τ sig) → Buf (Elt Ideal) ℓ) (ρ : Dev nD → PrngReg) (c : Dev nD)

/-- The recurrent layer's parameters, read off the arguments. -/
def params : Params where
  wih r i := m ((c : Thread nD τ).loc main_arg1) (ValueIdx.ix2 r i)
  whh r u := m ((c : Thread nD τ).loc main_arg2) (ValueIdx.ix2 r u)
  bih r := m ((c : Thread nD τ).loc main_arg3) (ValueIdx.ix1 r)
  bhh r := m ((c : Thread nD τ).loc main_arg4) (ValueIdx.ix1 r)

/-- The output layer's weights, read off the arguments. -/
def wfc (o : Fin 3) (u : Fin 32) : EReal := m ((c : Thread nD τ).loc main_arg5) (ValueIdx.ix2 o u)
/-- The output layer's bias, read off the arguments. -/
def bfc (o : Fin 3) : EReal := m ((c : Thread nD τ).loc main_arg6) (ValueIdx.ix1 o)

/-- The input of sequence `b` at time `t`, zero beyond the last. -/
def input (b : Fin 4096) (t : ℕ) (i : Fin 5) : EReal :=
  if h : t < 512 then m ((c : Thread nD τ).loc main_arg0) (ValueIdx.ix3 b ⟨t, h⟩ i) else 0

/-! ## The loop's entry -/

/-- The inputs' part of the gates' arguments, with the first bias. -/
theorem entry_gates (b : Fin 4096) (t : Fin 512) (r : Fin 128) :
    (entryContents preI m c (main_v7_0 : DevRef τ sig) : Vec Ideal S512x4096x128 .f32) (ValueIdx.ix3 t b r)
      = (∑ i, input m c b t.val i * (params m c).wih r i) + (params m c).bih r := by
  have e : entryContents preI m c (main_v7_0 : DevRef τ sig)
      = transpose S512x4096x128 [1, 0, 2] (addf (F := Ideal) (φ := .f32)
          (Host.dotGeneral (F := Ideal) (φ₁ := .f32) (φ₂ := .f32) dot_S4096x512x5_S128x5_S4096x512x128_2_1_01_0_n_n none (m ((c : Thread nD τ).loc main_arg0)) (m ((c : Thread nD τ).loc main_arg1)))
          (broadcastInDim S4096x512x128 ![0, 1, 2] bcast_S1x1x128_S4096x512x128_0_1_2
            (broadcastInDim S1x1x128 ![2] bcast_S128_S1x1x128_2 (m ((c : Thread nD τ).loc main_arg3))))) transposes_S4096x512x128_S512x4096x128_1_0_2 := by
    simp only [entryContents, afterL_cons, afterL_nil]
    after_results_entrywise []
  rw [e]
  unfold input
  simp only [dif_pos t.isLt]
  pointwise
  rfl

/-- The loop starts with the recurrent weights as given. -/
theorem entry_whh : entryContents preI m c (main_v7_1 : DevRef τ sig) = m ((c : Thread nD τ).loc main_arg2) := by
  simp only [entryContents, afterL_cons, afterL_nil]
  after_results_entrywise []

/-- The loop starts with the second bias as given. -/
theorem entry_bhh : entryContents preI m c (main_v7_2 : DevRef τ sig) = m ((c : Thread nD τ).loc main_arg4) := by
  simp only [entryContents, afterL_cons, afterL_nil]
  after_results_entrywise []

/-- The loop starts with a zero hidden vector. -/
theorem entry_hidden (i) : (entryContents preI m c (main_v7_4 : DevRef τ sig) : Vec Ideal S4096x32 .f32) i = (0 : EReal) := by
  have e : entryContents preI m c (main_v7_4 : DevRef τ sig) = broadcastInDim S4096x32 ![] bcast_S_S4096x32 (constant (F := Ideal) S_ .f32 0x00000000#32) := by
    simp only [entryContents, afterL_cons, afterL_nil]
    after_results_entrywise []
  rw [e]
  exact Ideal.ofBits_zero_f32

/-- The loop starts with zero cells. -/
theorem entry_cell (i) : (entryContents preI m c (main_v7_5 : DevRef τ sig) : Vec Ideal S4096x32 .f32) i = (0 : EReal) := by
  have e : entryContents preI m c (main_v7_5 : DevRef τ sig) = broadcastInDim S4096x32 ![] bcast_S_S4096x32 (constant (F := Ideal) S_ .f32 0x00000000#32) := by
    simp only [entryContents, afterL_cons, afterL_nil]
    after_results_entrywise []
  rw [e]
  exact Ideal.ofBits_zero_f32

/-! ## One trip -/

/-- What the loop's carried buffers hold before trip `k`. -/
structure Follows (X : Valuation τ sig (Elt Ideal)) (k : ℕ) : Prop where
  gates : X (main_v7_0 : DevRef τ sig) = entryContents preI m c (main_v7_0 : DevRef τ sig)
  whh : X (main_v7_1 : DevRef τ sig) = m ((c : Thread nD τ).loc main_arg2)
  bhh : X (main_v7_2 : DevRef τ sig) = m ((c : Thread nD τ).loc main_arg4)
  ctr : X (main_v7_3 : DevRef τ sig) = fun _ => BitVec.ofNat 32 k
  hidden : ∀ b u, (X (main_v7_4 : DevRef τ sig) : Vec Ideal S4096x32 .f32) (ValueIdx.ix2 b u) = (states (params m c) (input m c b) k).1 u
  cell : ∀ b u, (X (main_v7_5 : DevRef τ sig) : Vec Ideal S4096x32 .f32) (ValueIdx.ix2 b u) = (states (params m c) (input m c b) k).2 u

variable {m c} {X : Valuation τ sig (Elt Ideal)} {k : ℕ}

/-- The slice of the inputs' part at the counter. -/
theorem slice_at (G : Vec Ideal S512x4096x128 .f32) (hk : k < 512) (b : Fin 4096) (r : Fin 128) (start : Fin 3 → Int)
    (h0 : start 0 = k) (h1 : start 1 = 0) (h2 : start 2 = 0) :
    shapeCast S4096x128 (Host.dynamicSlice S1x4096x128 G start sliceFits_S512x4096x128_S1x4096x128) shapeCasts_S1x4096x128_S4096x128 (ValueIdx.ix2 b r)
      = G (ValueIdx.ix3 ⟨k, hk⟩ b r) := by
  pointwise
  refine congrArg G ?_
  funext z
  match z with
  | ⟨0, _⟩ => exact Fin.ext (by
      show Host.clampedStart S512x4096x128 S1x4096x128 rfl start 0 = k
      have hle : k + 1 ≤ 512 := hk
      exact Host.clampedStart_of_le (s := S512x4096x128) (t := S1x4096x128) rfl start 0 k h0 hle)
  | ⟨1, _⟩ => exact Fin.ext (by
      show Host.clampedStart S512x4096x128 S1x4096x128 _ start 1 + b.val = b.val
      rw [Host.clampedStart_of_le _ _ _ 0 (by exact h1) (by decide)]; omega)
  | ⟨2, _⟩ => exact Fin.ext (by
      show Host.clampedStart S512x4096x128 S1x4096x128 _ start 2 + r.val = r.val
      rw [Host.clampedStart_of_le _ _ _ 0 (by exact h2) (by decide)]; omega)

/-- A counter below the trip count, read signed. -/
theorem toInt_ctr (hk : k < 512) : (BitVec.ofNat 32 k).toInt = (k : Int) := by
  rw [BitVec.toInt_eq_toNat_of_lt (by rw [BitVec.toNat_ofNat]; omega), BitVec.toNat_ofNat]
  omega

/-- The gates' arguments. -/
theorem gates_at (hX : Follows m c X k) (hk : k < 512) (b : Fin 4096) (r : Fin 128) :
    (res_main_while0b_v19 X : Vec Ideal S4096x128 .f32) (ValueIdx.ix2 b r)
      = gate (params m c) (input m c b k) (states (params m c) (input m c b) k).1 r := by
  have e : ∀ (x y z : Vec Ideal S4096x128 .f32) (i : S4096x128.Idx), addf (F := Ideal) (φ := .f32) (addf (F := Ideal) (φ := .f32) x y) z i = (x i : EReal) + y i + z i :=
    fun _ _ _ _ => rfl
  unfold res_main_while0b_v19 gate
  rw [hX.gates, hX.whh, hX.bhh, hX.ctr]
  refine (e _ _ _ _).trans ?_
  rw [← entry_gates m c b ⟨k, hk⟩ r]
  refine congrArg₂ (· + ·) (congrArg₂ (· + ·) (slice_at _ hk b r _ (toInt_ctr hk) rfl rfl) ?_) ?_
  · have d : ∀ (h : Vec Ideal S4096x32 .f32) (w : Vec Ideal S128x32 .f32),
        Host.dotGeneral (F := Ideal) (φ₁ := .f32) (φ₂ := .f32) dot_S4096x32_S32x128_S4096x128_1_0_0_1_n_n none h (transpose S32x128 [1, 0] w transposes_S128x32_S32x128_1_0)
          (ValueIdx.ix2 b r) = ∑ u : Fin 32, h (ValueIdx.ix2 b u) * w (ValueIdx.ix2 r u) := fun h w => by
      pointwise
      rfl
    refine (d _ _).trans ?_
    exact Finset.sum_congr rfl fun u _ => by rw [hX.hidden]; rfl
  · have d : ∀ v : Vec Ideal S128 .f32, broadcastInDim S4096x128 ![0, 1] bcast_S1x128_S4096x128_0_1 (broadcastInDim S1x128 ![1] bcast_S128_S1x128_1 v)
        (ValueIdx.ix2 b r) = v (ValueIdx.ix1 r) := fun v => by
      pointwise
      rfl
    exact d _

/-- The logistic function as the reference writes it, on a quarter of the gates. -/
theorem logistic_at (off : ℕ) (g : Vec Ideal S4096x128 .f32) (hs : S4096x128.Slices ![0, off] S4096x32) (b : Fin 4096) (u : Fin 32) (ho : off + u.val < 128) :
    Host.divf (F := Ideal) (φ := .f32) (broadcastInDim S4096x32 ![] bcast_S_S4096x32 (constant (F := Ideal) S_ .f32 0x3F800000#32))
      (addf (F := Ideal) (φ := .f32) (broadcastInDim S4096x32 ![] bcast_S_S4096x32 (constant (F := Ideal) S_ .f32 0x3F800000#32))
        (Host.exp (F := Ideal) (φ := .f32) (Host.negf (F := Ideal) (φ := .f32) (extractStridedSlice S4096x32 ![0, off] g hs)))) (ValueIdx.ix2 b u)
      = Ideal.logistic (g (ValueIdx.ix2 b ⟨off + u.val, ho⟩)) := by
  have e : extractStridedSlice S4096x32 ![0, off] g hs (ValueIdx.ix2 b u) = g (ValueIdx.ix2 b ⟨off + u.val, ho⟩) := by
    pointwise
    rfl
  rw [← e]
  unfold Ideal.logistic
  pointwise
  done

/-- The cells' new states. -/
theorem cell_at (hX : Follows m c X k) (hk : k < 512) (b : Fin 4096) (u : Fin 32) :
    (res_main_while0b_v45 X : Vec Ideal S4096x32 .f32) (ValueIdx.ix2 b u)
      = cellNext (params m c) (input m c b k) (states (params m c) (input m c b) k) u := by
  have e : ∀ (x y z w : Vec Ideal S4096x32 .f32) (i : S4096x32.Idx),
      addf (F := Ideal) (φ := .f32) (mulf (F := Ideal) (φ := .f32) x y) (mulf (F := Ideal) (φ := .f32) z (Host.tanh (F := Ideal) (φ := .f32) w)) i
        = (x i : EReal) * y i + z i * Ideal.tanh (w i) := fun _ _ _ _ _ => rfl
  have s : ∀ g : Vec Ideal S4096x128 .f32, extractStridedSlice S4096x32 ![0, 64] g slices_S4096x128_S4096x32_0_64 (ValueIdx.ix2 b u)
      = g (ValueIdx.ix2 b ⟨64 + u.val, by omega⟩) := fun g => by
    pointwise
    rfl
  unfold res_main_while0b_v45
  refine (e _ _ _ _ _).trans ?_
  rw [logistic_at 32 _ _ b u (by omega), logistic_at 0 _ _ b u (by omega), s, hX.cell, gates_at hX hk, gates_at hX hk, gates_at hX hk]
  unfold cellNext
  simp only [Nat.zero_add]

/-- The new hidden vector. -/
theorem hidden_at (hX : Follows m c X k) (hk : k < 512) (b : Fin 4096) (u : Fin 32) :
    (step_main_v7_4 X : Vec Ideal S4096x32 .f32) (ValueIdx.ix2 b u) = (states (params m c) (input m c b) (k + 1)).1 u := by
  have e : ∀ (x y : Vec Ideal S4096x32 .f32) (i : S4096x32.Idx),
      mulf (F := Ideal) (φ := .f32) x (Host.tanh (F := Ideal) (φ := .f32) y) i = (x i : EReal) * Ideal.tanh (y i) := fun _ _ _ => rfl
  unfold step_main_v7_4
  refine (e _ _ _).trans ?_
  rw [logistic_at 96 _ _ b u (by omega), gates_at hX hk, cell_at hX hk]
  rfl

/-- A trip is a step of the network. -/
theorem step_follows (hX : Follows m c X k) (hk : k < 512) : Follows m c (STEP X) (k + 1) where
  gates := (STEP_main_v7_0 X).trans hX.gates
  whh := (STEP_main_v7_1 X).trans hX.whh
  bhh := (STEP_main_v7_2 X).trans hX.bhh
  ctr := by
    refine (STEP_main_v7_3 X).trans ?_
    unfold step_main_v7_3
    rw [hX.ctr]
    funext _
    exact (BitVec.ofNat_add k 1).symm
  hidden b u := (congrFun (STEP_main_v7_4 X) _).trans (hidden_at hX hk b u)
  cell b u := (congrFun (STEP_main_v7_5 X) _).trans (cell_at hX hk b u)

/-- The trips so far are the network's steps so far. -/
theorem iterate_follows (m : (ℓ : Loc nD τ sig) → Buf (Elt Ideal) ℓ) (c : Dev nD) : ∀ k, k ≤ 512 → Follows m c (STEP^[k] (entryContents preI m c)) k
  | 0, _ => ⟨rfl, entry_whh m c, entry_bhh m c, ctr_entry m c, fun _ _ => entry_hidden m c _, fun _ _ => entry_cell m c _⟩
  | k + 1, h => by
    rw [Function.iterate_succ_apply']
    exact step_follows (iterate_follows m c k (by omega)) (by omega)

/-! ## The result -/

/-- The output layer's value at sequence `b`, output `o`. -/
def answer (m : (ℓ : Loc nD τ sig) → Buf (Elt Ideal) ℓ) (c : Dev nD) (b : Fin 4096) (o : Fin 3) : EReal :=
  (∑ u, (states (params m c) (input m c b) 512).1 u * wfc m c o u) + bfc m c o

/-- The reference's result, entry by entry. -/
theorem result_at (m : (ℓ : Loc nD τ sig) → Buf (Elt Ideal) ℓ) (c : Dev nD) (b : Fin 4096) (o : Fin 3) :
    (out_main_v12 (STEP^[512] (entryContents preI m c)) : Vec Ideal S4096x3 .f32) (ValueIdx.ix2 b o) = answer m c b o := by
  have hX := iterate_follows m c 512 (le_refl _)
  have e : ∀ (h : Vec Ideal S4096x32 .f32) (w : Vec Ideal S3x32 .f32) (v : Vec Ideal S3 .f32),
      addf (F := Ideal) (φ := .f32) (Host.dotGeneral (F := Ideal) (φ₁ := .f32) (φ₂ := .f32) dot_S4096x32_S32x3_S4096x3_1_0_0_1_n_n none h
          (transpose S32x3 [1, 0] w transposes_S3x32_S32x3_1_0))
        (broadcastInDim S4096x3 ![0, 1] bcast_S1x3_S4096x3_0_1 (broadcastInDim S1x3 ![1] bcast_S3_S1x3_1 v)) (ValueIdx.ix2 b o)
      = (∑ u : Fin 32, h (ValueIdx.ix2 b u) * w (ValueIdx.ix2 o u)) + v (ValueIdx.ix1 o) := fun h w v => by
    pointwise
    rfl
  unfold out_main_v12
  refine (e _ _ _).trans ?_
  rw [iter_main_arg5 m c, iter_main_arg6 m c]
  unfold answer
  refine congrArg₂ (· + ·) (Finset.sum_congr rfl fun u _ => ?_) rfl
  rw [hX.hidden]
  rfl

end Cert.Lstm.Ref

end
-- ==== Proof.Equation.lean ====
/-
  The kernel and the reference end with the same result, over extended reals, from arguments that agree.
-/
module

public import proofs.«01_k».proof.Defs
public import proofs.«01_k».proof.Proof.Output
public import proofs.«01_k».proof.Proof.Reference

@[expose] public section

set_option maxRecDepth 16384

noncomputable section

namespace Cert.Lstm

open Idealize.ShloMosaic Idealize.ShloMosaic.TcCoe
open Idealize.SL Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The network's answer depends on the arguments alone. -/
theorem answer_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (b : Fin 4096) (o : Fin 3) : Ref.answer m' c b o = answer m c b o := by
  have hp : Ref.params m' c = params m c := by
    unfold Ref.params params
    rw [h1, h2, h3, h4]
  have hi : Ref.input m' c b = input m c b := by
    unfold Ref.input input
    rw [h0]
  have hw : Ref.wfc m' c = wfc m c := by
    unfold Ref.wfc wfc
    rw [h5]
  have hb : Ref.bfc m' c = bfc m c := by
    unfold Ref.bfc bfc
    rw [h6]
  unfold Ref.answer answer
  rw [hp, hi, hw, hb]

/-- The value claim: both programs end with the network's answer at every sequence and output, their arguments unchanged. -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c i => answer m c (i 0) (i 1),
    (θ_run Cert.KernelIdeal.defs _ _).mono (fun _ h c => ⟨h.1 c, h.2.1 c⟩)
      (θ_run_and (run_kernel m g) (Cert.KernelIdeal.Lstm.frame m g)),
    (θ_run Cert.ReferenceIdeal.defs _ _).mono (fun r h c => ⟨(h c).1.trans (by
        obtain ⟨h0, h1, h2, h3, h4, h5, h6⟩ := hargs c
        funext i
        obtain ⟨b, o, rfl⟩ : ∃ (b : Fin 4096) (o : Fin 3), i = ValueIdx.ix2 b o := ⟨i 0, i 1, ValueIdx.eq_ix2 i⟩
        exact (Ref.result_at m' c b o).trans (answer_eq m m' c h0 h1 h2 h3 h4 h5 h6 b o)), (h c).2⟩)
      (Cert.ReferenceIdeal.Value.run (F := Ideal) m' g')⟩

end Cert.Lstm

end
-- ==== Proof.lean ====
/-
  The claims. The two programs of the kernel have the same text, read at machine words and at extended reals: their frames are the
  launch theorem of Proof/Kernel/Launch.lean and its twin Proof/KernelIdeal/Launch.lean. The reference runs on the host.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Equation
public import Idealize.ShloMosaic.Adequacy
public import Idealize.ShloMosaic.Init

@[expose] public section

noncomputable section

namespace Cert.Proof

open Idealize.ShloMosaic Idealize.SL.Sem

/-- The kernel ends without fault, its arguments unchanged and its counters at zero, over machine words. -/
theorem frame_kernel : Cert.quiescent_Kernel (hKernel := Cert.Kernel.Gen.facts) := fun m ρ _ => Cert.Kernel.Lstm.frame m ρ

/-- The same over extended reals. -/
theorem frame_ideal : Cert.quiescent_KernelIdeal (hKernelIdeal := Cert.KernelIdeal.Gen.facts) := fun m ρ _ => Cert.KernelIdeal.Lstm.frame m ρ

/-- The reference's loop ends with its arguments unchanged; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    frame_kernel, frame_ideal, frame_reference, trivial, Cert.Lstm.algebraic⟩

end Cert.Proof

end
